-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 512]⟩ ⟨3, ![4, 2048, 512]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![2048, 512]⟩ (Layout.meshBlock [2, 4, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x512 : Shape := ⟨3, ![1, 2048, 512]⟩
abbrev S512 : Shape := ⟨1, ![512]⟩
abbrev S512x512 : Shape := ⟨2, ![512, 512]⟩
abbrev S3x512x512 : Shape := ⟨3, ![3, 512, 512]⟩
abbrev S3 : Shape := ⟨1, ![3]⟩
abbrev S_ : Shape := ⟨0, ![]⟩
abbrev S1x512x512 : Shape := ⟨3, ![1, 512, 512]⟩
abbrev S1 : Shape := ⟨1, ![1]⟩
abbrev S512x1 : Shape := ⟨2, ![512, 1]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S1x2048x512, .bf16⟩
  | .hbm, ⟨1, _⟩ => ⟨S512, .bf16⟩
  | .hbm, ⟨2, _⟩ => ⟨S512x512, .f32⟩
  | .local _ .vmem, ⟨0, _⟩ => ⟨S1x2048x512, .bf16⟩
  | .local _ .vmem, ⟨1, _⟩ => ⟨S512, .bf16⟩
  | .local _ .vmem, ⟨2, _⟩ => ⟨S512x512, .f32⟩
  | .local _ .vmem, ⟨3, _⟩ => ⟨S3x512x512, .bf16⟩
  | .local _ .vmem, ⟨4, _⟩ => ⟨S3x512x512, .bf16⟩
  | _, _ => ⟨S1x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v33 : BitVec 32 := Scalar.muli v2 c16_i32_17
  let v34 : BitVec 32 := Scalar.addi c0_i32_18 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_19 : BitVec 32 := 4#32
  let v35 : BitVec 32 := Scalar.muli v5 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_20 : BitVec 32 := 1#32
  let v37 : BitVec 32 := Scalar.muli v31 c1_i32_20
  let v38 : BitVec 32 := Scalar.addi v36 v37
  v38.toNat
def k0_off1 (d0 : Dev nD) (c4_i32_22 : BitVec 32) (c1_i32_23 : BitVec 32) : Fin 3 → Nat :=
  let c0 : Index := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v39 : BitVec 32 := Scalar.addi v8 c4_i32_22
  let v40 : BitVec 32 := Scalar.subi v39 c1_i32_23
  let c4_i32_24 : BitVec 32 := 4#32
  let c0_i32_25 : BitVec 32 := 0#32
  let v41 : BitVec 1 := Scalar.cmpi .eq c4_i32_24 c0_i32_25
  let c1_i32_26 : BitVec 32 := 1#32
  let v42 : BitVec 32 := Scalar.select v41 c1_i32_26 c4_i32_24
  let v43 : BitVec 32 := Scalar.remsi v40 v42
  let c0_i32_28 : BitVec 32 := 0#32
  let v45 : BitVec 1 := Scalar.cmpi .slt v43 c0_i32_28
  let c0_i32_29 : BitVec 32 := 0#32
  let v46 : BitVec 1 := Scalar.cmpi .slt v42 c0_i32_29
  let v47 : BitVec 1 := Scalar.xori v45 v46
  let c0_i32_27 : BitVec 32 := 0#32
  let v44 : BitVec 1 := Scalar.cmpi .ne v43 c0_i32_27
  let v48 : BitVec 1 := Scalar.andi v47 v44
  let v49 : BitVec 32 := Scalar.addi v43 v42
  let v50 : BitVec 32 := Scalar.select v48 v49 v43
  let c512_i32 : BitVec 32 := 512#32
  let v51 : BitVec 32 := Scalar.muli v50 c512_i32
  let v52 : Index := Scalar.indexCast v51
  let c0_30 : Index := 0#32
  ![0, v52.toNat, 0]
def k0_off1_at (r : Fin 4) : BitVec 32 × BitVec 32 :=
  if r.val < 2 then
    if r.val < 1 then
      (4#32, 1#32)
    else
      (2#32, 0#32)
  else
    if r.val < 3 then
      (2#32, 1#32)
    else
      (2#32, 2#32)
def k0_dev2 (d0 : Dev nD) : Nat :=
  let c0_i32_39 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_38 : BitVec 32 := 16#32
  let v58 : BitVec 32 := Scalar.muli v2 c16_i32_38
  let v59 : BitVec 32 := Scalar.addi c0_i32_39 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_40 : BitVec 32 := 4#32
  let v60 : BitVec 32 := Scalar.muli v5 c4_i32_40
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_41 : BitVec 32 := 1#32
  let v62 : BitVec 32 := Scalar.muli v19 c1_i32_41
  let v63 : BitVec 32 := Scalar.addi v61 v62
  v63.toNat
def k0_dev3 (d0 : Dev nD) : Nat :=
  let c0_i32_88 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_87 : BitVec 32 := 16#32
  let v112 : BitVec 32 := Scalar.muli v2 c16_i32_87
  let v113 : BitVec 32 := Scalar.addi c0_i32_88 v112
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_89 : BitVec 32 := 4#32
  let v114 : BitVec 32 := Scalar.muli v5 c4_i32_89
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_90 : BitVec 32 := 1#32
  let v116 : BitVec 32 := Scalar.muli v19 c1_i32_90
  let v117 : BitVec 32 := Scalar.addi v115 v116
  v117.toNat
def k0_dev4 (d0 : Dev nD) : Nat :=
  let c0_i32_137 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_136 : BitVec 32 := 16#32
  let v166 : BitVec 32 := Scalar.muli v2 c16_i32_136
  let v167 : BitVec 32 := Scalar.addi c0_i32_137 v166
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_138 : BitVec 32 := 4#32
  let v168 : BitVec 32 := Scalar.muli v5 c4_i32_138
  let v169 : BitVec 32 := Scalar.addi v167 v168
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_139 : BitVec 32 := 1#32
  let v170 : BitVec 32 := Scalar.muli v19 c1_i32_139
  let v171 : BitVec 32 := Scalar.addi v169 v170
  v171.toNat
abbrev stage0_0 : Fin 1 → Memref sig .tc .vmem S1x2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2048x512 : Shape := ⟨3, ![4, 2048, 512]⟩
abbrev S512 : Shape := ⟨1, ![512]⟩
abbrev S_ : Shape := ⟨0, ![]⟩
abbrev S2048x512 : Shape := ⟨2, ![2048, 512]⟩
abbrev S2048 : Shape := ⟨1, ![2048]⟩
abbrev S2048x1 : Shape := ⟨2, ![2048, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S512, .bf16⟩
  | .hbm, ⟨2, _⟩ => ⟨S4x2048x512, .f32⟩
  | .hbm, ⟨3, _⟩ => ⟨S512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x512, .f32⟩
  | .hbm, ⟨18, _⟩ => ⟨S2048x512, .f32⟩
  | .hbm, ⟨19, _⟩ => ⟨S1x512, .f32⟩
  | .hbm, ⟨20, _⟩ => ⟨S2048x512, .f32⟩
  | .hbm, ⟨21, _⟩ => ⟨S2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Protocol.lean ====
/-
# The ring's protocol

Device `c` of the mesh `x = 2, y = 4, z = 4` has the logical id `16 x + 4 y + z`; the kernel passes partial sums around
the four devices of one `z` line. Every device signals the barrier semaphore of the device on its left (`prv`) and waits
for one unit on its own. Then, three times, it sends one slot of its send buffer into the same slot of the landing buffer
of the device on its right (`nxt`), waits for both ends of the exchange, and adds the chunk of its own that is due.

One round per semaphore, one duty each:

* the barrier semaphore of `c` is paid by `nxt c`, which hands over its whole landing buffer;
* receive semaphore `k` of `c` is paid by the copy of `prv c`, which leaves slot `k` holding the partial sum `sent (prv c) k`;
* send semaphore `k` of `c` is paid by its own copy, which gives slot `k` of the send buffer back.

All of it is stated over any interpretation `F` of the floating-point types.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

set_option maxRecDepth 16384

noncomputable section

namespace Cert.KernelIdeal.Around

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: one component for the staged copies of the launch, one for the ring's semaphores. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ)

/-! ## The neighbours -/

/-- The device on the right: the next one of the same `z` line. -/
def nxt (c : Dev nD) : Dev nD := ⟨4 * (c.val / 4) + (c.val % 4 + 1) % 4, by have : c.val < 32 := c.isLt; show _ < 32; omega⟩
/-- The device on the left: the one before it in the same `z` line. -/
def prv (c : Dev nD) : Dev nD := ⟨4 * (c.val / 4) + (c.val % 4 + 3) % 4, by have : c.val < 32 := c.isLt; show _ < 32; omega⟩

theorem prv_nxt (c : Dev nD) : prv (nxt c) = c := by revert c; decide
theorem nxt_prv (c : Dev nD) : nxt (prv c) = c := by revert c; decide

/-- The barrier signal names the device on the left; -/
theorem dev1_eq : ∀ c : Dev nD, (⟨k0_dev1 c, Gen.k0_dev1_lt c⟩ : Dev nD) = prv c := by decide +kernel
/-- the three copies go to the device on the right. -/
theorem dev2_eq : ∀ c : Dev nD, (⟨k0_dev2 c, Gen.k0_dev2_lt c⟩ : Dev nD) = nxt c := by decide +kernel
theorem dev3_eq : ∀ c : Dev nD, (⟨k0_dev3 c, Gen.k0_dev3_lt c⟩ : Dev nD) = nxt c := by decide +kernel
theorem dev4_eq : ∀ c : Dev nD, (⟨k0_dev4 c, Gen.k0_dev4_lt c⟩ : Dev nD) = nxt c := by decide +kernel

/-- One step to the right, as a permutation of the devices. -/
def around : Dev nD ≃ Dev nD := ⟨nxt, prv, prv_nxt, nxt_prv⟩

/-! ## The semaphores -/

/-- The barrier semaphore. -/
abbrev barS : Sem sig := (SemArray.scalar (sig.barrier 0 rfl) : Sems sig S_).sem
/-- Send semaphore `k`. -/
def sendS (k : Fin 3) : DmaSem sig := ⟨3 + k.val, by have := k.isLt; show _ < 9; omega⟩
/-- Receive semaphore `k`. -/
def recvS (k : Fin 3) : DmaSem sig := ⟨6 + k.val, by have := k.isLt; show _ < 9; omega⟩

abbrev barCell (c : Dev nD) : GSem nD τ sig := ((c : Thread nD τ), .reg barS)
abbrev sendCell (c : Dev nD) (k : Fin 3) : GSem nD τ sig := ((c : Thread nD τ), .dma (sendS k))
abbrev recvCell (c : Dev nD) (k : Fin 3) : GSem nD τ sig := ((c : Thread nD τ), .dma (recvS k))

/-- What a semaphore is for. -/
inductive Role where
  | none | bar | send (k : Fin 3) | recv (k : Fin 3)
deriving DecidableEq

/-- The use of each semaphore: the barrier, the three of the sends, the three of the arrivals, and none of these. -/
def role : SemLoc sig → Role
  | .reg _ => .bar
  | .dma q => if h : 6 ≤ q.val then .recv ⟨q.val - 6, by have : q.val < 9 := q.isLt; omega⟩
      else if h' : 3 ≤ q.val then .send ⟨q.val - 3, by omega⟩ else .none

theorem role_bar : role (.reg barS) = .bar := rfl
theorem role_send (k : Fin 3) : role (.dma (sendS k)) = .send k := by revert k; decide
theorem role_recv (k : Fin 3) : role (.dma (recvS k)) = .recv k := by revert k; decide

/-- The kernel's own six semaphores as the launch lists them: sends, then arrivals. -/
abbrev osem : Fin 6 → SemLoc sig := fun
  | 0 => .dma (sendS 0) | 1 => .dma (sendS 1) | 2 => .dma (sendS 2) | 3 => .dma (recvS 0) | 4 => .dma (recvS 1) | 5 => .dma (recvS 2)
/-- All seven of the ring: the barrier, the sends, the arrivals. -/
abbrev csem : Fin 7 → SemLoc sig := fun
  | 0 => .reg barS | 1 => .dma (sendS 0) | 2 => .dma (sendS 1) | 3 => .dma (sendS 2)
  | 4 => .dma (recvS 0) | 5 => .dma (recvS 1) | 6 => .dma (recvS 2)
abbrev kcell (ck : Dev nD × Fin 7) : GSem nD τ sig := ((ck.1 : Thread nD τ), csem ck.2)
/-- Where send semaphore `k` and receive semaphore `k` stand in that list. -/
def sIx : Fin 3 → Fin 7 := fun | 0 => 1 | 1 => 2 | 2 => 3
def rIx : Fin 3 → Fin 7 := fun | 0 => 4 | 1 => 5 | 2 => 6
theorem csem_sIx (k : Fin 3) : csem (sIx k) = .dma (sendS k) := by fin_cases k <;> rfl
theorem csem_rIx (k : Fin 3) : csem (rIx k) = .dma (recvS k) := by fin_cases k <;> rfl

/-! ## The slots of the two buffers -/

theorem slot_inb (k : Fin 3) : ∀ a, (![k.val, 0, 0] : Fin 3 → Nat) a + S1x512x512.size a ≤ S3x512x512.size a := by
  revert k; decide
/-- The rows of slot `k` in a buffer of three slots. -/
abbrev slotRect (k : Fin 3) : Rect S3x512x512 := Rect.unit (s := S3x512x512) ![k.val, 0, 0] S1x512x512.size (slot_inb k)

abbrev sendM : Memref sig .tc .vmem S3x512x512 .bf16 := Memref.whole cc0_scratch0
abbrev landM : Memref sig .tc .vmem S3x512x512 .bf16 := Memref.whole cc0_scratch1
/-- Slot `k` of the send buffer, and of the landing buffer. -/
abbrev sendSlot (k : Fin 3) : Memref sig .tc .vmem S512x512 .bf16 :=
  (sendM.slice (slotRect k) (fun _ => rfl)).squeeze S512x512 squeezes_S1x512x512_S512x512
abbrev landSlot (k : Fin 3) : Memref sig .tc .vmem S512x512 .bf16 :=
  (landM.slice (slotRect k) (fun _ => rfl)).squeeze S512x512 squeezes_S1x512x512_S512x512

/-- What one exchange credits a semaphore. -/
abbrev N : ℕ := (landSlot 0).view.dmaCredit
theorem N_pos : 0 < N := View.dmaCredit_pos _ (by decide)

theorem sendSlot_set (k : Fin 3) : (sendSlot k).view.set = (slotRect k).set :=
  (Memref.set_view_squeeze _ _).trans (View.set_slice_whole cc0_scratch0 (slotRect k))
theorem landSlot_set (k : Fin 3) : (landSlot k).view.set = (slotRect k).set :=
  (Memref.set_view_squeeze _ _).trans (View.set_slice_whole cc0_scratch1 (slotRect k))

theorem slots_disjoint (k k' : Fin 3) (h : k ≠ k') : Disjoint (slotRect k).set (slotRect k').set := by
  rw [Finset.disjoint_left]
  intro i hi hi'
  have h0 := (Rect.mem_set_unit.mp hi) 0
  have h1 := (Rect.mem_set_unit.mp hi') 0
  have e0 : (![k.val, 0, 0] : Fin 3 → Nat) 0 = k.val := rfl
  have e1 : (![k'.val, 0, 0] : Fin 3 → Nat) 0 = k'.val := rfl
  have e2 : S1x512x512.size 0 = 1 := rfl
  rw [e0, e2] at h0
  rw [e1, e2] at h1
  exact h (Fin.ext (by omega))

theorem slots_cover : (Finset.univ : Finset (Fin 3)).biUnion (fun k => (slotRect k).set) = Finset.univ := by
  ext i
  simp only [Finset.mem_biUnion, Finset.mem_univ, true_and, iff_true]
  have hi : (i 0).val < 3 := (i 0).isLt
  refine ⟨⟨(i 0).val, hi⟩, Rect.mem_set_unit.mpr fun a => ?_⟩
  have h1 : (i 1).val < 512 := (i 1).isLt
  have h2 : (i 2).val < 512 := (i 2).isLt
  fin_cases a
  · exact ⟨le_refl _, Nat.lt_succ_self _⟩
  · exact ⟨Nat.zero_le _, by show (i 1).val < 0 + 512; omega⟩
  · exact ⟨Nat.zero_le _, by show (i 2).val < 0 + 512; omega⟩

/-! ## The values -/

/-- Device `c`'s block of `partial`, as its launch stages it. -/
def xstg (c : Dev nD) : (cc0_stg0_0 : Ref sig .tc).ty.Contents (Elt F) :=
  (win0_0.blk (0 : Fin 1)).view.read (Elt F) (m ((c : Thread nD τ).loc main_arg0))
/-- Its copy of `gamma`. -/
def gstg (c : Dev nD) : (cc0_stg1_0 : Ref sig .tc).ty.Contents (Elt F) :=
  (win0_1.blk (0 : Fin 1)).view.read (Elt F) (m ((c : Thread nD τ).loc main_arg1))

/-- The rows of its own block that device `c` reads first, second, third and fourth. -/
abbrev own1 (c : Dev nD) : Vec F S1x512x512 .bf16 :=
  (Memref.whole cc0_stg0_0 : Memref sig .tc .vmem S1x2048x512 .bf16).view.readAt (Elt F)
    (Rect.unit (s := S1x2048x512) (k0_off1 c 4#32 1#32) S1x512x512.size (Gen.k0_off1_inb c 0)).toLoadRect (xstg m c)
abbrev own2 (c : Dev nD) : Vec F S1x512x512 .bf16 :=
  (Memref.whole cc0_stg0_0 : Memref sig .tc .vmem S1x2048x512 .bf16).view.readAt (Elt F)
    (Rect.unit (s := S1x2048x512) (k0_off1 c 2#32 0#32) S1x512x512.size (Gen.k0_off1_inb c 1)).toLoadRect (xstg m c)
abbrev own3 (c : Dev nD) : Vec F S1x512x512 .bf16 :=
  (Memref.whole cc0_stg0_0 : Memref sig .tc .vmem S1x2048x512 .bf16).view.readAt (Elt F)
    (Rect.unit (s := S1x2048x512) (k0_off1 c 2#32 1#32) S1x512x512.size (Gen.k0_off1_inb c 2)).toLoadRect (xstg m c)
abbrev own4 (c : Dev nD) : Vec F S1x512x512 .bf16 :=
  (Memref.whole cc0_stg0_0 : Memref sig .tc .vmem S1x2048x512 .bf16).view.readAt (Elt F)
    (Rect.unit (s := S1x2048x512) (k0_off1 c 2#32 2#32) S1x512x512.size (Gen.k0_off1_inb c 3)).toLoadRect (xstg m c)

/-- The partial sum device `c` sends in its first exchange: its own chunk alone; -/
def sent0 (c : Dev nD) : FVec F S512x512 .bf16 := shapeCast S512x512 (k0_pay2 (own1 m c)) shapeCasts_S1x512x512_S512x512
/-- in the second: what came from the left, and its own chunk added; -/
def sent1 (c : Dev nD) : FVec F S512x512 .bf16 :=
  shapeCast S512x512 (k0_pay4 (sent0 m (prv c)) (own2 m c)) shapeCasts_S1x512x512_S512x512
/-- in the third, again. -/
def sent2 (c : Dev nD) : FVec F S512x512 .bf16 :=
  shapeCast S512x512 (k0_pay6 (sent1 m (prv c)) (own3 m c)) shapeCasts_S1x512x512_S512x512
/-- The partial sum device `c` sends in exchange `k`. -/
def sent (c : Dev nD) : Fin 3 → FVec F S512x512 .bf16 := fun | 0 => sent0 m c | 1 => sent1 m c | 2 => sent2 m c

/-- The kernel's result on device `c`: what came last from the left with its own chunk added, normalised and scaled. -/
def outAt (c : Dev nD) : (cc0_stg2_0 : Ref sig .tc).ty.Contents (Elt F) :=
  k0_pay1 (sent2 m (prv c)) (k0_pay8 (own4 m c)) (gstg m c)

/-! ## The buffers as assertions -/

/-- Slot `k` of device `c`'s send buffer, and of its landing buffer, at the contents `f` of the whole buffer. -/
def sendPts (c : Dev nD) (k : Fin 3) (f : Buf (Elt F) ((c : Thread nD τ).loc cc0_scratch0)) : sProp 𝕄 :=
  (sendSlot k).view.loc (c : Thread nD τ) ↦[(sendSlot k).view.set]{fullShare} f
def landPts (c : Dev nD) (k : Fin 3) (f : Buf (Elt F) ((c : Thread nD τ).loc cc0_scratch1)) : sProp 𝕄 :=
  (landSlot k).view.loc (c : Thread nD τ) ↦[(landSlot k).view.set]{fullShare} f
/-- The whole buffers, at some contents. -/
def sendAll (c : Dev nD) : sProp 𝕄 := iprop(∃ f : Buf (Elt F) ((c : Thread nD τ).loc cc0_scratch0), ((c : Thread nD τ).loc cc0_scratch0) ↦{fullShare} f)
def landAll (c : Dev nD) : sProp 𝕄 := iprop(∃ f : Buf (Elt F) ((c : Thread nD τ).loc cc0_scratch1), ((c : Thread nD τ).loc cc0_scratch1) ↦{fullShare} f)
/-- A slot holding the partial sum `v`. -/
def sendHolds (c : Dev nD) (k : Fin 3) (v : FVec F S512x512 .bf16) : sProp 𝕄 :=
  iprop(∃ f, ⌜(sendSlot k).view.read (Elt F) f = v⌝ ∗ sendPts c k f)
def landHolds (c : Dev nD) (k : Fin 3) (v : FVec F S512x512 .bf16) : sProp 𝕄 :=
  iprop(∃ f, ⌜(landSlot k).view.read (Elt F) f = v⌝ ∗ landPts c k f)

instance sendPts_storable (c : Dev nD) (k f) : BI.Storable (upEmb : UEmb _ 𝕄) (sendPts (F := F) c k f) := by unfold sendPts; infer_instance
instance landPts_storable (c : Dev nD) (k f) : BI.Storable (upEmb : UEmb _ 𝕄) (landPts (F := F) c k f) := by unfold landPts; infer_instance
instance landAll_storable (c : Dev nD) : BI.Storable (upEmb : UEmb _ 𝕄) (landAll (F := F) c) := by unfold landAll; infer_instance
instance sendHolds_storable (c : Dev nD) (k v) : BI.Storable (upEmb : UEmb _ 𝕄) (sendHolds (F := F) c k v) := by unfold sendHolds; infer_instance
instance landHolds_storable (c : Dev nD) (k v) : BI.Storable (upEmb : UEmb _ 𝕄) (landHolds (F := F) c k v) := by unfold landHolds; infer_instance

theorem sendPts_eq (c : Dev nD) (k : Fin 3) (f : Buf (Elt F) ((c : Thread nD τ).loc cc0_scratch0)) :
    sendPts c k f = (((c : Thread nD τ).loc cc0_scratch0) ↦[(slotRect k).set]{fullShare} f : sProp 𝕄) := by unfold sendPts; rw [sendSlot_set]
theorem landPts_eq (c : Dev nD) (k : Fin 3) (f : Buf (Elt F) ((c : Thread nD τ).loc cc0_scratch1)) :
    landPts c k f = (((c : Thread nD τ).loc cc0_scratch1) ↦[(slotRect k).set]{fullShare} f : sProp 𝕄) := by unfold landPts; rw [landSlot_set]

/-- The send buffer held whole is held slot by slot; -/
theorem sendAll_split (c : Dev nD) : (sendAll c : sProp 𝕄) ⊢ iprop((∃ f, sendPts c 0 f) ∗ (∃ f, sendPts c 1 f) ∗ ∃ f, sendPts c 2 f) :=
  Ring.slots3_split (ℓ := (c : Thread nD τ).loc cc0_scratch0) (q := fullShare) (fun k : Fin 3 => (slotRect k).set) slots_disjoint slots_cover
    (fun f => sendPts c 0 f) (fun f => sendPts c 1 f) (fun f => sendPts c 2 f) (sendPts_eq c 0) (sendPts_eq c 1) (sendPts_eq c 2)
/-- so is the landing buffer; -/
theorem landAll_split (c : Dev nD) : (landAll c : sProp 𝕄) ⊢ iprop((∃ f, landPts c 0 f) ∗ (∃ f, landPts c 1 f) ∗ ∃ f, landPts c 2 f) :=
  Ring.slots3_split (ℓ := (c : Thread nD τ).loc cc0_scratch1) (q := fullShare) (fun k : Fin 3 => (slotRect k).set) slots_disjoint slots_cover
    (fun f => landPts c 0 f) (fun f => landPts c 1 f) (fun f => landPts c 2 f) (landPts_eq c 0) (landPts_eq c 1) (landPts_eq c 2)
/-- and the slots join back, whatever each holds. -/
theorem sendAll_join (c : Dev nD) : iprop((∃ f, sendPts c 0 f) ∗ (∃ f, sendPts c 1 f) ∗ ∃ f, sendPts c 2 f) ⊢ (sendAll c : sProp 𝕄) :=
  Ring.slots3_join (ℓ := (c : Thread nD τ).loc cc0_scratch0) (q := fullShare) (fun k : Fin 3 => (slotRect k).set) slots_disjoint slots_cover
    (fun f => sendPts c 0 f) (fun f => sendPts c 1 f) (fun f => sendPts c 2 f) (sendPts_eq c 0) (sendPts_eq c 1) (sendPts_eq c 2)
theorem landAll_join (c : Dev nD) : iprop((∃ f, landPts c 0 f) ∗ (∃ f, landPts c 1 f) ∗ ∃ f, landPts c 2 f) ⊢ (landAll c : sProp 𝕄) :=
  Ring.slots3_join (ℓ := (c : Thread nD τ).loc cc0_scratch1) (q := fullShare) (fun k : Fin 3 => (slotRect k).set) slots_disjoint slots_cover
    (fun f => landPts c 0 f) (fun f => landPts c 1 f) (fun f => landPts c 2 f) (landPts_eq c 0) (landPts_eq c 1) (landPts_eq c 2)

/-! ## The schedule -/

/-- What the unit on `c`'s barrier semaphore hands over: the landing buffer of the device on the right. -/
def barPay (c : Dev nD) : sProp 𝕄 := landAll (nxt c)

instance barPay_storable (c : Dev nD) : BI.Storable (upEmb : UEmb _ 𝕄) (barPay (F := F) c) := by unfold barPay; infer_instance

/-- What a semaphore of device `c` hands over, by its use. -/
def payOf (c : Dev nD) : Role → sProp 𝕄
  | .none => iprop(emp)
  | .bar => barPay c
  | .send k => sendHolds c k (sent m c k)
  | .recv k => landHolds c k (sent m (prv c) k)

instance payOf_storable (c : Dev nD) (r : Role) : BI.Storable (upEmb : UEmb _ 𝕄) (payOf (F := F) m c r) := by
  cases r <;> (unfold payOf; infer_instance)

/-- The units it takes. -/
def amtOf : Role → ℕ
  | .none => 1 | .bar => 1 | .send _ => N | .recv _ => N

/-- Round 0 of each of the seven semaphores of a device has one duty. -/
def ringRd : Rounds.Schedule (GSem nD τ sig) Unit 𝕄 where
  duties g r := if r = 0 ∧ g.1.2 = .tc ∧ role g.2 ≠ .none then {()} else ∅
  unitless _ := False
  amount g _ _ := amtOf (role g.2)
  payload g _ _ := payOf m g.1.1 (role g.2)
  amount_pos g _ _ _ := by
    cases h : role g.2 <;> first | exact Nat.one_pos | exact N_pos

instance ringRd_payload_storable (g : GSem nD τ sig) (r : ℕ) (d : Unit) :
    BI.Storable (upEmb : UEmb _ 𝕄) ((ringRd (F := F) m).payload g r d) := by
  show BI.Storable upEmb (payOf m g.1.1 (role g.2)); infer_instance

section Sched
variable (c : Dev nD)

theorem duties_of (sm : SemLoc sig) (h : role sm ≠ .none) : (ringRd (F := F) m).duties ((c : Thread nD τ), sm) 0 = {()} := by
  dsimp only [ringRd]; exact if_pos ⟨rfl, rfl, h⟩
theorem duties_bar : (ringRd (F := F) m).duties (barCell c) 0 = {()} := duties_of m c _ (by rw [role_bar]; exact fun h => by cases h)
theorem duties_send (k : Fin 3) : (ringRd (F := F) m).duties (sendCell c k) 0 = {()} := duties_of m c _ (by rw [role_send]; exact fun h => by cases h)
theorem duties_recv (k : Fin 3) : (ringRd (F := F) m).duties (recvCell c k) 0 = {()} := duties_of m c _ (by rw [role_recv]; exact fun h => by cases h)
theorem duties_later (g : GSem nD τ sig) : ∀ r, 1 ≤ r → (ringRd (F := F) m).duties g r = ∅ :=
  fun r hr => by dsimp only [ringRd]; exact if_neg fun h => by omega

theorem amount_bar (u : Unit) : (ringRd (F := F) m).amount (barCell c) 0 u = 1 := by dsimp only [ringRd]; rw [role_bar]; rfl
theorem amount_send (k : Fin 3) (u : Unit) : (ringRd (F := F) m).amount (sendCell c k) 0 u = N := by dsimp only [ringRd]; rw [role_send]; rfl
theorem amount_recv (k : Fin 3) (u : Unit) : (ringRd (F := F) m).amount (recvCell c k) 0 u = N := by dsimp only [ringRd]; rw [role_recv]; rfl

theorem expect_bar : (ringRd (F := F) m).expect (barCell c) 0 = 1 := by
  unfold Schedule.expect Schedule.amountOf; rw [duties_bar, Finset.sum_singleton, amount_bar]
theorem expect_send (k : Fin 3) : (ringRd (F := F) m).expect (sendCell c k) 0 = N := by
  unfold Schedule.expect Schedule.amountOf; rw [duties_send, Finset.sum_singleton, amount_send]
theorem expect_recv (k : Fin 3) : (ringRd (F := F) m).expect (recvCell c k) 0 = N := by
  unfold Schedule.expect Schedule.amountOf; rw [duties_recv, Finset.sum_singleton, amount_recv]

theorem payload_bar (u : Unit) : (ringRd (F := F) m).payload (barCell c) 0 u = barPay c := by dsimp only [ringRd]; rw [role_bar]; rfl
theorem payload_send (k : Fin 3) (u : Unit) : (ringRd (F := F) m).payload (sendCell c k) 0 u = sendHolds c k (sent m c k) := by
  dsimp only [ringRd]; rw [role_send]; rfl
theorem payload_recv (k : Fin 3) (u : Unit) : (ringRd (F := F) m).payload (recvCell c k) 0 u = landHolds c k (sent m (prv c) k) := by
  dsimp only [ringRd]; rw [role_recv]; rfl

/-- The whole of a round, no duty of it taken yet, is its one payload. -/
theorem rest_bar : bigSep ((ringRd (F := F) m).duties (barCell c) 0 \ ∅) (fun u => (ringRd (F := F) m).payload (barCell c) 0 u) = barPay c := by
  rw [Finset.sdiff_empty, duties_bar, bigSep_singleton, payload_bar]
theorem rest_send (k : Fin 3) : bigSep ((ringRd (F := F) m).duties (sendCell c k) 0 \ ∅) (fun u => (ringRd (F := F) m).payload (sendCell c k) 0 u)
    = sendHolds c k (sent m c k) := by
  rw [Finset.sdiff_empty, duties_send, bigSep_singleton, payload_send]
theorem rest_recv (k : Fin 3) : bigSep ((ringRd (F := F) m).duties (recvCell c k) 0 \ ∅) (fun u => (ringRd (F := F) m).payload (recvCell c k) 0 u)
    = landHolds c k (sent m (prv c) k) := by
  rw [Finset.sdiff_empty, duties_recv, bigSep_singleton, payload_recv]

end Sched

/-! ## What each device owes at launch, and in which order the waits come -/

/-- What device `c` still owes its right neighbour's receive semaphores before exchanges 2, 1, 0. -/
def due2 (c : Dev nD) : CellTallies nD τ sig Unit := 0 + tallyAt (recvCell (nxt c) 2) () N
def due1 (c : Dev nD) : CellTallies nD τ sig Unit := due2 c + tallyAt (recvCell (nxt c) 1) () N
def due0 (c : Dev nD) : CellTallies nD τ sig Unit := due1 c + tallyAt (recvCell (nxt c) 0) () N
/-- At launch, also the unit of its left neighbour's barrier. -/
def O₀ (c : Dev nD) : CellTallies nD τ sig Unit := due0 c + tallyAt (barCell (prv c)) () 1

def L (g : GSem nD τ sig) : Finset Unit := if g.1.2 = .tc then {()} else ∅
/-- The barrier comes before the arrivals, and those in order; nothing waits for a send that is owed elsewhere. -/
def lvOf : Role → ℕ
  | .none => 0 | .bar => 1 | .send _ => 0 | .recv k => 2 + k.val
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [role_bar]; rfl
theorem lv_send (c : Dev nD) (k : Fin 3) : lv (sendCell c k) () = 0 := by unfold lv; rw [role_send]; rfl
theorem lv_recv (c : Dev nD) (k : Fin 3) : lv (recvCell c k) () = 2 + k.val := by unfold lv; rw [role_recv]; rfl

/-- Every cell of `O` is a TensorCore's and lies above level `n`. -/
def Above (n : ℕ) (O : CellTallies nD τ sig Unit) : Prop := ∀ (g : GSem nD τ sig) (u : Unit), 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n k : ℕ} {g : GSem nD τ sig} (hg : g.1.2 = .tc) (hl : n < lv g ()) : Above n (tallyAt g () k) := fun g' u h => by
  rw [tallyAt_apply] at h
  by_cases he : g' = g ∧ u = ()
  · rw [he.1]; exact ⟨hg, hl⟩
  · rw [if_neg he] at h; exact absurd h (Nat.lt_irrefl 0)

theorem above_due2 (c : Dev nD) {n : ℕ} (h : n < 4) : Above n (due2 c) := above_add (above_zero n) (above_tally rfl (by rw [lv_recv]; exact h))
theorem above_due1 (c : Dev nD) {n : ℕ} (h : n < 3) : Above n (due1 c) := above_add (above_due2 c (by omega)) (above_tally rfl (by rw [lv_recv]; exact h))
theorem above_due0 (c : Dev nD) {n : ℕ} (h : n < 2) : Above n (due0 c) := above_add (above_due1 c (by omega)) (above_tally rfl (by rw [lv_recv]; exact h))
theorem above_O₀ (c : Dev nD) {n : ℕ} (h : n < 1) : Above n (O₀ c) := above_add (above_due0 c (by omega)) (above_tally rfl (by rw [lv_bar]; exact h))

/-- A device may wait on a semaphore below everything it still owes. -/
theorem mayWait (c : Dev nD) (sm : SemLoc sig) {O : CellTallies nD τ sig Unit} (h : Above (lv ((c : Thread nD τ), sm) ()) O) :
    (levAts L lv : sProp 𝕄) ⊢ MayWait (c : Thread nD τ) sm () O :=
  Pipeline.mayWait_of_levAts (by rw [L_tc]; exact Finset.mem_singleton_self _)
    (fun g u hg => ⟨by unfold L; rw [if_pos (h g u hg).1]; exact Finset.mem_singleton_self _, (h g u hg).2⟩)

end Cert.KernelIdeal.Around

end
-- ==== Proof.Body.lean ====
/-
# The kernel's body

What a device starts from and ends with, and its body executed one operation at a time: the handshake, then three
exchanges. An exchange is three lemmas: the copy to the right (`copy_step`), the wait on the send semaphore
(`wait_send_step`, which gives the source slot back) and the wait on the receive semaphore (`wait_recv_step`, which gives
the slot that came from the left, with the partial sum it holds).
-/
module

public import proofs.«01_k».proof.Proof.Protocol

@[expose] public section

set_option maxRecDepth 16384

noncomputable section

namespace Cert.KernelIdeal.Around

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The ghost state of a device -/

/-- Every cell's invariant, under the names `K` the launch gave them, and that every cell has reached round 0. -/
def records (K : Dev nD × Fin 7 → ℕ) : sProp 𝕄 :=
  iprop((bigSep Finset.univ fun ck : Dev nD × Fin 7 => cellInv ER (ringRd m) (K ck) (kcell ck))
    ∗ bigSep Finset.univ fun ck : Dev nD × Fin 7 => reached ER (kcell ck) 0)

instance records_persistent (K : Dev nD × Fin 7 → ℕ) : BI.Persistent (records m K) := by unfold records; infer_instance

theorem records_inv (K : Dev nD × Fin 7 → ℕ) (c : Dev nD) (i : Fin 7) {sm : SemLoc sig} (h : csem i = sm) :
    records m K ⊢ cellInv ER (ringRd m) (K (c, i)) ((c : Thread nD τ), sm) := by
  subst h
  have e : (bigSep Finset.univ fun ck : Dev nD × Fin 7 => (cellInv ER (ringRd m) (K ck) (kcell ck) : sProp 𝕄)) ⊢ cellInv ER (ringRd m) (K (c, i)) (kcell (c, i)) :=
    bigSep_elim (Finset.mem_univ (c, i))
  unfold records
  iintro ⟨H, -⟩
  iapply e; iexact H
theorem records_reached (K : Dev nD × Fin 7 → ℕ) (c : Dev nD) (i : Fin 7) {sm : SemLoc sig} (h : csem i = sm) :
    records m K ⊢ reached ER ((c : Thread nD τ), sm) 0 := by
  subst h
  have e : (bigSep Finset.univ fun ck : Dev nD × Fin 7 => (reached ER (kcell ck) 0 : sProp 𝕄)) ⊢ reached ER (kcell (c, i)) 0 :=
    bigSep_elim (Finset.mem_univ (c, i))
  unfold records
  iintro ⟨-, H⟩
  iapply e; iexact H

/-- The device's place at its own seven semaphores. -/
def places (c : Dev nD) : sProp 𝕄 := bigSep Finset.univ fun i : Fin 7 => atPos ER (kcell (c, i)) 0 ∅ 0
/-- The right to pay what it pays: its left neighbour's barrier, its right neighbour's arrivals, its own sends. -/
def rights (c : Dev nD) : sProp 𝕄 :=
  iprop(dutyTok ER (barCell (prv c)) 0 ()
    ∗ (bigSep Finset.univ fun k : Fin 3 => dutyTok ER (recvCell (nxt c) k) 0 ())
    ∗ bigSep Finset.univ fun k : Fin 3 => dutyTok ER (sendCell c k) 0 ())
/-- All of a device's ghost state. -/
def ghost (K : Dev nD × Fin 7 → ℕ) (c : Dev nD) : sProp 𝕄 := iprop(records m K ∗ places c ∗ rights c)

/-- The credit it waits with: a unit for its barrier, one exchange for each arrival. -/
def credits (c : Dev nD) : sProp 𝕄 :=
  iprop(cred (tallyAt (barCell c) () 1) ∗ cred (tallyAt (recvCell c 0) () N) ∗ cred (tallyAt (recvCell c 1) () N) ∗ cred (tallyAt (recvCell c 2) () N))

/-- What the body starts from, the two scratch buffers apart. -/
def start (c : Dev nD) : sProp 𝕄 := iprop((∃ K, ghost m K c) ∗ credits c ∗ levAts L lv)
def Φ₀ (c : Dev nD) : sProp 𝕄 := iprop(start m c ∗ sendAll c ∗ landAll c)
/-- What it ends with: the two scratch buffers, and its seven semaphores at zero. -/
def Φ₁ (c : Dev nD) : sProp 𝕄 := iprop((sendAll c ∗ landAll c) ∗ bigSep Finset.univ fun i : Fin 7 => semVal (kcell (c, i)) 0)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => gstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## One operation at a time -/

section Steps

theorem landSlot_credit (k : Fin 3) : (landSlot k).view.dmaCredit = N := rfl
theorem sendSlot_credit (k : Fin 3) : (sendSlot k).view.dmaCredit = N := rfl

variable (K : Dev nD × Fin 7 → ℕ)

/-- A wait for the one duty of a semaphore of `c`: it hands over that duty's payload `P`. -/
theorem wait_step {α : Type} {Q : α → sProp 𝕄} (c : Dev nD) (i : Fin 7) {sm : SemLoc sig} (hi : csem i = sm) {n : ℕ} {P : sProp 𝕄}
    {w : TpuEff nD τ sig (Elt F) Λ₀ .tc PUnit}
    (hw : ∀ R : PUnit → sProp 𝕄, wpE (defs₀ (F := F)) 𝒱₀ (c : Thread nD τ) none Set.univ w R = waitSpec (c : Thread nD τ) Set.univ sm n R)
    (hn : (ringRd m).expect ((c : Thread nD τ), sm) 0 = n)
    (hP : bigSep ((ringRd m).duties ((c : Thread nD τ), sm) 0 \ ∅) (fun u => (ringRd m).payload ((c : Thread nD τ), sm) 0 u) = P)
    {O : CellTallies nD τ sig Unit} (hO : Above (lv ((c : Thread nD τ), sm) ()) O) (W : Waits sig Unit)
    {k : PUnit → Prog (TpuEff nD τ sig (Elt F) Λ₀ .tc) α} :
    iprop(records m K ∗ levAts L lv ∗ cred (tallyAt ((c : Thread nD τ), sm) () n) ∗ owes (c : Thread nD τ) O W ∗ atPos ER ((c : Thread nD τ), sm) 0 ∅ 0)
      ⊢ iprop(((owes (c : Thread nD τ) O (insert (sm, ()) W) ∗ atPos ER ((c : Thread nD τ), sm) 1 ∅ 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hP
  iintro ⟨#HR, #Hlev, Hc, Ho, Hat⟩ Hk
  iapply (Rounds.wp_wait_rest_token 𝒱₀ ER (ringRd m) (c : Thread nD τ) none (κ := K (c, i)) hw (Set.mem_univ _) () (O := O) (W := W) (R := 0) (m := 0) (T := ∅)
      (by rw [Nat.zero_add, hn])) $$ [Hc Ho Hat]
  · isplitr; · iapply (records_inv m K c i hi); iexact HR
    isplitl [Hc]; · iexact Hc
    isplitl [Ho]; · iexact Ho
    isplitr; · iapply (mayWait c sm hO); iexact Hlev
    iexact Hat
  iintro ⟨Ho, Hat, -, Hp⟩
  iapply Hk
  isplitl [Ho]; · iexact Ho
  isplitl [Hat]; · iexact Hat
  iexact Hp

set_option maxHeartbeats 1600000 in
/-- The copy of slot `k`, holding the partial sum due, to the device on the right: the credit for the send is held from then on,
    the debt to the right neighbour's receive semaphore paid. -/
theorem copy_step {α : Type} {Q : α → sProp 𝕄} (c n : Dev nD) (hn : n = nxt c) (k : Fin 3)
    {hsc : (landSlot k : Memref sig (Dev.tc n : Thread nD τ).2.kind .vmem S512x512 .bf16).view.ref.isScScratch = false}
    {hsrc : (sendSlot k).view.WordExact} {hdst : (landSlot k).view.WordExact}
    {hsem : DmaTarget.Typed .vmem (.dma (recvS k)) (.remote (Dev.tc n : Thread nD τ) (landSlot k) (.dma (sendS k)) hsc)}
    {g : PUnit → Prog (TpuEff nD τ sig (Elt F) Λ₀ .tc) α} (O : CellTallies nD τ sig Unit) (W : Waits sig Unit) :
    iprop(records m K ∗ sendHolds c k (sent m c k) ∗ (∃ f, landPts (nxt c) k f)
        ∗ owes (c : Thread nD τ) (O + tallyAt (recvCell (nxt c) k) () N) W
        ∗ dutyTok ER (sendCell c k) 0 () ∗ dutyTok ER (recvCell (nxt c) k) 0 ())
      ⊢ iprop(((cred (tallyAt (sendCell c k) () N) ∗ owes (c : Thread nD τ) O W)
            -∗ wp frame (wpE (defs₀ (F := F)) 𝒱₀ (c : Thread nD τ) none) Set.univ (g ⟨⟩) Q)
          -∗ wp frame (wpE (defs₀ (F := F)) 𝒱₀ (c : Thread nD τ) none) Set.univ
              (.op (.enqueueDma (sendSlot k) (.remote (Dev.tc n : Thread nD τ) (landSlot k) (.dma (sendS k)) hsc) (.dma (recvS k)) hsrc hdst hsem) g) Q) := by
  subst hn
  unfold sendHolds sendPts
  iintro ⟨#HR, ⟨%fs, %hfs, Hs⟩, ⟨%fd, Hd⟩, Ho, Ht, Ht'⟩ Hk
  unfold landPts
  iapply (Rounds.wp_send_pointsTo 𝒱₀ ER (ringRd m) (c : Thread nD τ) none (κ₁ := K (c, sIx k)) (κ₂ := K (nxt c, rIx k))
    (r₁ := 0) (r₂ := 0) (d₁ := ()) (d₂ := ()) (fs := fs) (fd := fd) (q := fullShare)
    (c' := (nxt c : Thread nD τ)) (src := sendSlot k) (dst := landSlot k) (sS := .dma (sendS k)) (sem := .dma (recvS k))
    (by rw [duties_send]; exact Finset.mem_singleton_self _) (by rw [duties_recv]; exact Finset.mem_singleton_self _)
    () () N (landSlot_credit k) (amount_send m c k ()) (amount_recv m (nxt c) k ()) O rfl (W := W)
    (by
      rw [payload_send]; unfold sendHolds sendPts
      iintro H; iexists fs; isplitr; · (ipureintro; exact hfs)
      iexact H)
    (by
      rw [payload_recv, prv_nxt]; unfold landHolds landPts
      iintro H; iexists _; isplitr
      swap; · iexact H
      ipureintro
      rw [View.read_write_univ]; exact hfs)) $$ [Hs Hd Ho Ht Ht']
  · isplitr; · iapply (records_inv m K c (sIx k) (csem_sIx k)); iexact HR
    isplitr; · iapply (records_inv m K (nxt c) (rIx k) (csem_rIx k)); iexact HR
    isplitl [Hs]; · iexact Hs
    isplitl [Hd]; · iexact Hd
    isplitl [Ho]; · iexact Ho
    isplitl [Ht]; · iexact Ht
    isplitr; · iapply (records_reached m K c (sIx k) (csem_sIx k)); iexact HR
    isplitl [Ht']; · iexact Ht'
    iapply (records_reached m K (nxt c) (rIx k) (csem_rIx k)); iexact HR
  iexact Hk

/-- The wait on send semaphore `k` gives the slot sent back. -/
theorem wait_send_step {α : Type} {Q : α → sProp 𝕄} (c : Dev nD) (k : Fin 3) {hsrc : (landSlot k).view.WordExact} {hdst : (sendSlot k).view.WordExact}
    {O : CellTallies nD τ sig Unit} (hO : Above 0 O) (W : Waits sig Unit) {g : PUnit → Prog (TpuEff nD τ sig (Elt F) Λ₀ .tc) α} :
    iprop(records m K ∗ levAts L lv ∗ cred (tallyAt (sendCell c k) () N) ∗ owes (c : Thread nD τ) O W ∗ atPos ER (sendCell c k) 0 ∅ 0)
      ⊢ iprop(((owes (c : Thread nD τ) O (insert (.dma (sendS k), ()) W) ∗ atPos ER (sendCell c k) 1 ∅ 0 ∗ sendHolds c k (sent m c k))
            -∗ wp frame (wpE (defs₀ (F := F)) 𝒱₀ (c : Thread nD τ) none) Set.univ (g ⟨⟩) Q)
          -∗ wp frame (wpE (defs₀ (F := F)) 𝒱₀ (c : Thread nD τ) none) Set.univ (.op (.waitDma2 (sendS k) (landSlot k) (sendSlot k) hsrc hdst) g) Q) :=
  wait_step m K c (sIx k) (csem_sIx k) (w := .waitDma2 (sendS k) (landSlot k) (sendSlot k) hsrc hdst) (n := N) (fun _ => rfl) (expect_send m c k) (rest_send m c k) (by rw [lv_send]; exact hO) W

/-- The wait on receive semaphore `k` gives the slot that came from the left. -/
theorem wait_recv_step {α : Type} {Q : α → sProp 𝕄} (c : Dev nD) (k : Fin 3) {hsrc : (sendSlot k).view.WordExact} {hdst : (landSlot k).view.WordExact}
    {O : CellTallies nD τ sig Unit} (hO : Above (2 + k.val) O) (W : Waits sig Unit) {g : PUnit → Prog (TpuEff nD τ sig (Elt F) Λ₀ .tc) α} :
    iprop(records m K ∗ levAts L lv ∗ cred (tallyAt (recvCell c k) () N) ∗ owes (c : Thread nD τ) O W ∗ atPos ER (recvCell c k) 0 ∅ 0)
      ⊢ iprop(((owes (c : Thread nD τ) O (insert (.dma (recvS k), ()) W) ∗ atPos ER (recvCell c k) 1 ∅ 0 ∗ landHolds c k (sent m (prv c) k))
            -∗ wp frame (wpE (defs₀ (F := F)) 𝒱₀ (c : Thread nD τ) none) Set.univ (g ⟨⟩) Q)
          -∗ wp frame (wpE (defs₀ (F := F)) 𝒱₀ (c : Thread nD τ) none) Set.univ (.op (.waitDma2 (recvS k) (sendSlot k) (landSlot k) hsrc hdst) g) Q) :=
  wait_step m K c (rIx k) (csem_rIx k) (w := .waitDma2 (recvS k) (sendSlot k) (landSlot k) hsrc hdst) (n := N) (fun _ => rfl) (expect_recv m c k) (rest_recv m c k) (by rw [lv_recv]; exact hO) W

/-- A load of slot `k` of the send buffer, whatever it holds; -/
theorem load_send {α : Type} {Q : α → sProp 𝕄} (c : Dev nD) (k : Fin 3) {hl} {g : (S1x512x512.Idx → Elt F .bf16) → Prog (TpuEff nD τ sig (Elt F) Λ₀ .tc) α}
    (f : Buf (Elt F) ((c : Thread nD τ).loc cc0_scratch0)) :
    sendPts c k f ⊢ iprop((sendPts c k f -∗ wp frame (wpE (defs₀ (F := F)) 𝒱₀ (c : Thread nD τ) none) Set.univ
            (g (sendM.view.readAt (Elt F) (slotRect k).toLoadRect f)) Q)
        -∗ wp frame (wpE (defs₀ (F := F)) 𝒱₀ (c : Thread nD τ) none) Set.univ (.op (.load sendM (slotRect k).toLoadRect hl) g) Q) :=
  wp_load_rect 𝒱₀ (c : Thread nD τ) none Set.univ (m := sendM) (r := slotRect k)
    (by rw [sendSlot_set]; exact (View.set_slice_whole cc0_scratch0 (slotRect k)).le)
/-- of slot `k` of the landing buffer, at the partial sum it holds; -/
theorem load_land {α : Type} {Q : α → sProp 𝕄} (c : Dev nD) (k : Fin 3) {hl} {g : (S1x512x512.Idx → Elt F .bf16) → Prog (TpuEff nD τ sig (Elt F) Λ₀ .tc) α}
    (f : Buf (Elt F) ((c : Thread nD τ).loc cc0_scratch1)) :
    landPts c k f ⊢ iprop((landPts c k f -∗ wp frame (wpE (defs₀ (F := F)) 𝒱₀ (c : Thread nD τ) none) Set.univ
            (g (landM.view.readAt (Elt F) (slotRect k).toLoadRect f)) Q)
        -∗ wp frame (wpE (defs₀ (F := F)) 𝒱₀ (c : Thread nD τ) none) Set.univ (.op (.load landM (slotRect k).toLoadRect hl) g) Q) :=
  wp_load_rect 𝒱₀ (c : Thread nD τ) none Set.univ (m := landM) (r := slotRect k)
    (by rw [landSlot_set]; exact (View.set_slice_whole cc0_scratch1 (slotRect k)).le)
/-- and a store over the whole of slot `k` of the send buffer. -/
theorem store_send {α : Type} {Q : α → sProp 𝕄} (c : Dev nD) (k : Fin 3) {w : S1x512x512.Idx → Elt F .bf16} {hx hm} {g : PUnit → Prog (TpuEff nD τ sig (Elt F) Λ₀ .tc) α}
    (f : Buf (Elt F) ((c : Thread nD τ).loc cc0_scratch0)) :
    sendPts c k f ⊢ iprop((sendHolds c k (shapeCast S512x512 w shapeCasts_S1x512x512_S512x512)
            -∗ wp frame (wpE (defs₀ (F := F)) 𝒱₀ (c : Thread nD τ) none) Set.univ (g ⟨⟩) Q)
        -∗ wp frame (wpE (defs₀ (F := F)) 𝒱₀ (c : Thread nD τ) none) Set.univ (.op (.store sendM (slotRect k) w Finset.univ hx hm) g) Q) := by
  iintro H Hk
  iapply (wp_store 𝒱₀ (c : Thread nD τ) none Set.univ (m := sendM) (r := slotRect k) (Mk := Finset.univ) (S := (sendSlot k).view.set) (f := f)
    (by rw [View.setOn_univ, sendSlot_set]; exact (View.set_slice_whole cc0_scratch0 (slotRect k)).le)) $$ [H]
  · unfold sendPts; iexact H
  iintro H
  iapply Hk
  unfold sendHolds sendPts
  iexists _; isplitr
  swap; · iexact H
  ipureintro
  show shapeCast S512x512 ((sendM.access (slotRect k)).read (Elt F) ((sendM.access (slotRect k)).write (Elt F) f w Finset.univ)) _ = _
  rw [View.read_write_univ]

end Steps

/-! ## The body -/

section Body

variable (K : Dev nD × Fin 7 → ℕ)

abbrev xM : Memref sig .tc .vmem S1x2048x512 .bf16 := Memref.whole cc0_stg0_0
abbrev gM : Memref sig .tc .vmem S512 .bf16 := Memref.whole cc0_stg1_0
abbrev oM : Memref sig .tc .vmem S512x512 .f32 := Memref.whole cc0_stg2_0

/-- A staging buffer whole, at the contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m K c ∗ credits c ∗ levAts L lv ∗ sendAll c ∗ landAll c)
    ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt () t0_0.succ ∗ stg c cc0_stg0_0 (xstg m c) ∗ stg c cc0_stg1_0 (gstg m c) ∗ stg c cc0_stg2_0 (outAt m c))

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem places_eq (c : Dev nD) : (places c : sProp 𝕄) = iprop(atPos ER (barCell c) 0 ∅ 0 ∗ atPos ER (sendCell c 0) 0 ∅ 0 ∗ atPos ER (sendCell c 1) 0 ∅ 0
    ∗ atPos ER (sendCell c 2) 0 ∅ 0 ∗ atPos ER (recvCell c 0) 0 ∅ 0 ∗ atPos ER (recvCell c 1) 0 ∅ 0 ∗ atPos ER (recvCell c 2) 0 ∅ 0) := by
  unfold places; rw [bigSep_fin7]
theorem zeros_eq (c : Dev nD) : (bigSep Finset.univ fun i : Fin 7 => (semVal (kcell (c, i)) 0 : sProp 𝕄)) = iprop(semVal (barCell c) 0 ∗ semVal (sendCell c 0) 0
    ∗ semVal (sendCell c 1) 0 ∗ semVal (sendCell c 2) 0 ∗ semVal (recvCell c 0) 0 ∗ semVal (recvCell c 1) 0 ∗ semVal (recvCell c 2) 0) := by
  rw [bigSep_fin7]
theorem rights_eq (c : Dev nD) : (rights c : sProp 𝕄) = iprop(dutyTok ER (barCell (prv c)) 0 ()
    ∗ (dutyTok ER (recvCell (nxt c) 0) 0 () ∗ dutyTok ER (recvCell (nxt c) 1) 0 () ∗ dutyTok ER (recvCell (nxt c) 2) 0 ())
    ∗ dutyTok ER (sendCell c 0) 0 () ∗ dutyTok ER (sendCell c 1) 0 () ∗ dutyTok ER (sendCell c 2) 0 ()) := by
  unfold rights; rw [Ring.bigSep_fin3, Ring.bigSep_fin3]

/-- What a load of a whole slot reads, as the partial sum the slot holds. -/
theorem read_land (k : Fin 3) {v : FVec F S512x512 .bf16} (f : (cc0_scratch1 : Ref sig .tc).ty.Contents (Elt F))
    (h : (landSlot k).view.read (Elt F) f = v) :
    shapeCast S512x512 (landM.view.readAt (Elt F) (slotRect k).toLoadRect f) shapeCasts_S1x512x512_S512x512 = v := h

theorem hz2 : (![0, 0] : Fin 2 → Nat) = fun _ => 0 := funext fun a => by fin_cases a <;> rfl
theorem hz1 : (![0] : Fin 1 → Nat) = fun _ => 0 := funext fun a => by fin_cases a; rfl
theorem read_gamma (f : (cc0_stg1_0 : Ref sig .tc).ty.Contents (Elt F)) :
    (Memref.whole cc0_stg1_0 : Memref sig .tc .vmem S512 .bf16).view.readAt (Elt F) (Rect.unit (s := S512) ![0] S512.size inb_S512_S512_0).toLoadRect f = f :=
  Memref.readAt_unit_zero (Elt F) cc0_stg1_0 hz1 _ f
theorem write_out (f w : (cc0_stg2_0 : Ref sig .tc).ty.Contents (Elt F)) :
    ((Memref.whole cc0_stg2_0 : Memref sig .tc .vmem S512x512 .f32).access (Rect.unit (s := S512x512) ![0, 0] S512x512.size inb_S512x512_S512x512_0_0) : View sig .tc _ _ _).write (Elt F) f w Finset.univ = w :=
  Memref.write_access_unit_zero_univ (Elt F) cc0_stg2_0 hz2 _ f w

/-- What is stored for the second exchange, out of what came in the first; -/
theorem sent1_eq (c : Dev nD) (f : (cc0_scratch1 : Ref sig .tc).ty.Contents (Elt F)) (h : (landSlot 0).view.read (Elt F) f = sent m (prv c) 0) :
    shapeCast S512x512 (k0_pay4 (k0_pay3 (landM.view.readAt (Elt F) (slotRect 0).toLoadRect f)) (own2 m c)) shapeCasts_S1x512x512_S512x512 = sent m c 1 :=
  congrArg (fun v => shapeCast S512x512 (k0_pay4 v (own2 m c)) shapeCasts_S1x512x512_S512x512) (read_land 0 f h)
/-- for the third, out of what came in the second; -/
theorem sent2_eq (c : Dev nD) (f : (cc0_scratch1 : Ref sig .tc).ty.Contents (Elt F)) (h : (landSlot 1).view.read (Elt F) f = sent m (prv c) 1) :
    shapeCast S512x512 (k0_pay6 (k0_pay5 (landM.view.readAt (Elt F) (slotRect 1).toLoadRect f)) (own3 m c)) shapeCasts_S1x512x512_S512x512 = sent m c 2 :=
  congrArg (fun v => shapeCast S512x512 (k0_pay6 v (own3 m c)) shapeCasts_S1x512x512_S512x512) (read_land 1 f h)
/-- and the result, out of what came in the third. -/
theorem out_eq (c : Dev nD) (f : (cc0_scratch1 : Ref sig .tc).ty.Contents (Elt F)) (h : (landSlot 2).view.read (Elt F) f = sent m (prv c) 2) :
    k0_pay1 (k0_pay7 (landM.view.readAt (Elt F) (slotRect 2).toLoadRect f)) (k0_pay8 (own4 m c))
      (gM.view.readAt (Elt F) (Rect.unit (s := S512) ![0] S512.size inb_S512_S512_0).toLoadRect (gstg m c)) = outAt m c := by
  rw [read_gamma]
  exact congrArg (fun v => k0_pay1 v (k0_pay8 (own4 m c)) (gstg m c)) (read_land 2 f h)

set_option maxHeartbeats 1600000 in
/-- The body, from `bodyPre` to `bodyPost`, one rule per operation. -/
theorem sound_body (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, wp_deviceId]
  unfold bodyPre ghost credits
  rw [places_eq, rights_eq]
  iintro ⟨⟨⟨⟨#HR, ⟨HaB, HaS0, HaS1, HaS2, HaV0, HaV1, HaV2⟩, HtB, ⟨HtV0, HtV1, HtV2⟩, HtS0, HtS1, HtS2⟩, ⟨HcB, HcV0, HcV1, HcV2⟩, #Hlev, Hsnd, Hlnd⟩,
    Ho, ⟨%d0, %g0, %hg0, Hx⟩, ⟨%d1, %g1, %hg1, Hg⟩, ⟨%d2, %g2, %hg2, Hout⟩⟩, Hk⟩
  have hx : g0 = xstg m c := by rw [hg0]; unfold Dat.before; rw [if_pos (fetch0_0 t0_0)]; rfl
  have hg : g1 = gstg m c := by rw [hg1]; unfold Dat.before; rw [if_pos (fetch0_1 t0_0)]; rfl
  subst hx hg
  unfold Dat.owesAt Pipeline.owesWithin
  icases Ho with ⟨%W, %hW, HO⟩
  rw [show (dats m 0 c).owed t0_0.castSucc = O₀ c from rfl]
  simp only [dev1_eq c]
  -- the barrier signal to the left, with the landing buffer
  iapply (Rounds.wp_signal 𝒱₀ ER (ringRd m) (c : Thread nD τ) none (dst := (prv c : Thread nD τ)) (κ := K (prv c, 0)) (r := 0)
      (d := ()) (by rw [duties_bar]; exact Finset.mem_singleton_self _) ((amount_bar m (prv c) ()).trans (by decide)) () (due0 c) rfl)
    $$ [HO HtB Hlnd]
  · isplitr; · iapply (records_inv m K (prv c) 0 rfl); iexact HR
    isplitl [HO]; · iexact HO
    isplitl [HtB]; · iexact HtB
    isplitl [Hlnd]
    · irw [payload_bar]; unfold barPay; irw [nxt_prv]; iexact Hlnd
    iapply (records_reached m K (prv c) 0 rfl); iexact HR
  iintro HO
  -- the wait for the right neighbour's
  iapply (wait_step m K c 0 rfl (w := .semWait barS 1) (n := 1) (fun _ => rfl) (expect_bar m c) (rest_bar m c) (O := due0 c)
    (by rw [lv_bar]; exact above_due0 c (by decide)) W) $$ [HcB HO HaB]
  · isplitr; · iexact HR
    isplitr; · iexact Hlev
    isplitl [HcB]; · iexact HcB
    isplitl [HO]; · iexact HO
    iexact HaB
  iintro ⟨HO, HaB, Hp⟩
  unfold barPay
  ihave Hp := (landAll_split (nxt c)) $$ Hp
  icases Hp with ⟨HN0, HN1, HN2⟩
  ihave Hs := (sendAll_split c) $$ Hsnd
  icases Hs with ⟨⟨%s0, Hs0⟩, ⟨%s1, Hs1⟩, ⟨%s2, Hs2⟩⟩
  -- the first exchange
  iapply (wp_load 𝒱₀ (c : Thread nD τ) none Set.univ (m := xM) (Finset.subset_univ _)) $$ Hx; iintro Hx
  iapply (load_send c 0 s0) $$ Hs0; iintro Hs0
  iapply (store_send c 0 s0) $$ Hs0; iintro Hs0
  unfold due0
  iapply (copy_step m K c _ (dev2_eq c) 0 (due1 c) _) $$ [Hs0 HN0 HO HtS0 HtV0]
  · isplitr; · iexact HR
    isplitl [Hs0]; · iexact Hs0
    isplitl [HN0]; · iexact HN0
    isplitl [HO]; · iexact HO
    isplitl [HtS0]; · iexact HtS0
    iexact HtV0
  iintro ⟨HcS0, HO⟩
  iapply (wait_send_step m K c 0 (O := due1 c) (above_due1 c (by decide)) _) $$ [HcS0 HO HaS0]
  · isplitr; · iexact HR
    isplitr; · iexact Hlev
    isplitl [HcS0]; · iexact HcS0
    isplitl [HO]; · iexact HO
    iexact HaS0
  iintro ⟨HO, HaS0, Hs0⟩
  iapply (wait_recv_step m K c 0 (O := due1 c) (above_due1 c (by decide)) _) $$ [HcV0 HO HaV0]
  · isplitr; · iexact HR
    isplitr; · iexact Hlev
    isplitl [HcV0]; · iexact HcV0
    isplitl [HO]; · iexact HO
    iexact HaV0
  iintro ⟨HO, HaV0, Hl0⟩
  unfold landHolds
  icases Hl0 with ⟨%l0, %hl0, Hl0⟩
  iapply (load_land c 0 l0) $$ Hl0; iintro Hl0
  -- the second
  iapply (wp_load 𝒱₀ (c : Thread nD τ) none Set.univ (m := xM) (Finset.subset_univ _)) $$ Hx; iintro Hx
  iapply (load_send c 1 s1) $$ Hs1; iintro Hs1
  iapply (store_send c 1 s1) $$ Hs1; iintro Hs1
  ihave Hs1 := (Entails.of_eq (congrArg (sendHolds c 1) (sent1_eq m c l0 hl0))) $$ Hs1
  unfold due1
  iapply (copy_step m K c _ (dev3_eq c) 1 (due2 c) _) $$ [Hs1 HN1 HO HtS1 HtV1]
  · isplitr; · iexact HR
    isplitl [Hs1]; · iexact Hs1
    isplitl [HN1]; · iexact HN1
    isplitl [HO]; · iexact HO
    isplitl [HtS1]; · iexact HtS1
    iexact HtV1
  iintro ⟨HcS1, HO⟩
  iapply (wait_send_step m K c 1 (O := due2 c) (above_due2 c (by decide)) _) $$ [HcS1 HO HaS1]
  · isplitr; · iexact HR
    isplitr; · iexact Hlev
    isplitl [HcS1]; · iexact HcS1
    isplitl [HO]; · iexact HO
    iexact HaS1
  iintro ⟨HO, HaS1, Hs1⟩
  iapply (wait_recv_step m K c 1 (O := due2 c) (above_due2 c (by decide)) _) $$ [HcV1 HO HaV1]
  · isplitr; · iexact HR
    isplitr; · iexact Hlev
    isplitl [HcV1]; · iexact HcV1
    isplitl [HO]; · iexact HO
    iexact HaV1
  iintro ⟨HO, HaV1, Hl1⟩
  unfold landHolds
  icases Hl1 with ⟨%l1, %hl1, Hl1⟩
  iapply (load_land c 1 l1) $$ Hl1; iintro Hl1
  -- the third
  iapply (wp_load 𝒱₀ (c : Thread nD τ) none Set.univ (m := xM) (Finset.subset_univ _)) $$ Hx; iintro Hx
  iapply (load_send c 2 s2) $$ Hs2; iintro Hs2
  iapply (store_send c 2 s2) $$ Hs2; iintro Hs2
  ihave Hs2 := (Entails.of_eq (congrArg (sendHolds c 2) (sent2_eq m c l1 hl1))) $$ Hs2
  unfold due2
  iapply (copy_step m K c _ (dev4_eq c) 2 (0) _) $$ [Hs2 HN2 HO HtS2 HtV2]
  · isplitr; · iexact HR
    isplitl [Hs2]; · iexact Hs2
    isplitl [HN2]; · iexact HN2
    isplitl [HO]; · iexact HO
    isplitl [HtS2]; · iexact HtS2
    iexact HtV2
  iintro ⟨HcS2, HO⟩
  iapply (wait_send_step m K c 2 (O := 0) (above_zero _) _) $$ [HcS2 HO HaS2]
  · isplitr; · iexact HR
    isplitr; · iexact Hlev
    isplitl [HcS2]; · iexact HcS2
    isplitl [HO]; · iexact HO
    iexact HaS2
  iintro ⟨HO, HaS2, Hs2⟩
  iapply (wait_recv_step m K c 2 (O := 0) (above_zero _) _) $$ [HcV2 HO HaV2]
  · isplitr; · iexact HR
    isplitr; · iexact Hlev
    isplitl [HcV2]; · iexact HcV2
    isplitl [HO]; · iexact HO
    iexact HaV2
  iintro ⟨HO, HaV2, Hl2⟩
  unfold landHolds
  icases Hl2 with ⟨%l2, %hl2, Hl2⟩
  iapply (load_land c 2 l2) $$ Hl2; iintro Hl2
  -- the seven semaphores close
  imod (Rounds.cell_close ER (ringRd m) (Set.mem_univ (K (c, 0))) (fun h => h) (R := 1) (duties_later m (barCell c))) $$ [HaB] with HaB
  · isplitr; · iapply (records_inv m K c 0 rfl); iexact HR
    iexact HaB
  imod (Rounds.cell_close ER (ringRd m) (Set.mem_univ (K (c, 1))) (fun h => h) (R := 1) (duties_later m (sendCell c 0))) $$ [HaS0] with HaS0
  · isplitr; · iapply (records_inv m K c 1 rfl); iexact HR
    iexact HaS0
  imod (Rounds.cell_close ER (ringRd m) (Set.mem_univ (K (c, 2))) (fun h => h) (R := 1) (duties_later m (sendCell c 1))) $$ [HaS1] with HaS1
  · isplitr; · iapply (records_inv m K c 2 rfl); iexact HR
    iexact HaS1
  imod (Rounds.cell_close ER (ringRd m) (Set.mem_univ (K (c, 3))) (fun h => h) (R := 1) (duties_later m (sendCell c 2))) $$ [HaS2] with HaS2
  · isplitr; · iapply (records_inv m K c 3 rfl); iexact HR
    iexact HaS2
  imod (Rounds.cell_close ER (ringRd m) (Set.mem_univ (K (c, 4))) (fun h => h) (R := 1) (duties_later m (recvCell c 0))) $$ [HaV0] with HaV0
  · isplitr; · iapply (records_inv m K c 4 rfl); iexact HR
    iexact HaV0
  imod (Rounds.cell_close ER (ringRd m) (Set.mem_univ (K (c, 5))) (fun h => h) (R := 1) (duties_later m (recvCell c 1))) $$ [HaV1] with HaV1
  · isplitr; · iapply (records_inv m K c 5 rfl); iexact HR
    iexact HaV1
  imod (Rounds.cell_close ER (ringRd m) (Set.mem_univ (K (c, 6))) (fun h => h) (R := 1) (duties_later m (recvCell c 2))) $$ [HaV2] with HaV2
  · isplitr; · iapply (records_inv m K c 6 rfl); iexact HR
    iexact HaV2
  -- the last addition, the norm and the result
  iapply (wp_load 𝒱₀ (c : Thread nD τ) none Set.univ (m := xM) (Finset.subset_univ _)) $$ Hx; iintro Hx
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Hout; iintro Hout
  iapply (wp_store 𝒱₀ (c : Thread nD τ) none Set.univ (m := oM) (r := Rect.unit (s := S512x512) ![0, 0] S512x512.size inb_S512x512_S512x512_0_0)
    (Mk := Finset.univ) (Finset.subset_univ _)) $$ Hout; iintro Hout
  rw [write_out, wp_ret]; imodintro
  iapply Hk
  unfold bodyPost Φ₁ Dat.owesAt Pipeline.owesWithin
  rw [show (dats m 0 c).owed t0_0.succ = 0 from rfl, zeros_eq]
  isplitl [Hs0 Hs1 Hs2 Hl0 Hl1 Hl2 HaB HaS0 HaS1 HaS2 HaV0 HaV1 HaV2]
  · isplitl [Hs0 Hs1 Hs2 Hl0 Hl1 Hl2]
    · isplitl [Hs0 Hs1 Hs2]
      · iapply (sendAll_join c)
        unfold sendHolds
        icases Hs0 with ⟨%f0, -, Hs0⟩
        icases Hs1 with ⟨%f1, -, Hs1⟩
        icases Hs2 with ⟨%f2, -, Hs2⟩
        isplitl [Hs0]; · iexists f0; iexact Hs0
        isplitl [Hs1]; · iexists f1; iexact Hs1
        iexists f2; iexact Hs2
      · iapply (landAll_join c)
        isplitl [Hl0]; · iexists l0; iexact Hl0
        isplitl [Hl1]; · iexists l1; iexact Hl1
        iexists l2; iexact Hl2
    isplitl [HaB]; · iexact HaB
    isplitl [HaS0]; · iexact HaS0
    isplitl [HaS1]; · iexact HaS1
    isplitl [HaS2]; · iexact HaS2
    isplitl [HaV0]; · iexact HaV0
    isplitl [HaV1]; · iexact HaV1
    iexact HaV2
  isplitl [HO]
  · iexists _
    isplitr
    swap; · iexact HO
    ipureintro; exact fun _ _ => Or.inl trivial
  isplitl [Hx]
  · iexists _; isplitr; · (ipureintro; rfl)
    iexact Hx
  isplitl [Hg]
  · iexists _; isplitr; · (ipureintro; rfl)
    iexact Hg
  iexists _; isplitr
  swap; · iexact Hout
  ipureintro
  exact out_eq m c l2 hl2

/-- `bodyPre` with the ghost state's names still to be chosen. -/
def bodyPre' (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- The kernel's body meets the launch's obligation on every device. -/
theorem body_obligation (c : Dev nD) : BodyObligation (dats (F := F) m 0 c) (defs₀ (F := F)) 𝒱₀ () Set.univ := fun t => by
  have ht : t = t0_0 := fin_N0 t
  rw [ht]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole_eq]
  show bodyPre' m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m c)
  unfold bodyPre' Φ₀ start
  iintro ⟨⟨⟨⟨%K, Hg⟩, Hc, Hl⟩, Hs⟩, Hrest⟩
  iapply (sound_body m K c fun _ => bodyPost m c)
  unfold bodyPre
  isplitr []
  · isplitl [Hg Hc Hl Hs]
    · isplitl [Hg]; · iexact Hg
      isplitl [Hc]; · iexact Hc
      isplitl [Hl]; · iexact Hl
      iexact Hs
    iexact Hrest
  · iintro H; iexact H

end Body

end Cert.KernelIdeal.Around

end
-- ==== Proof.Launch.lean ====
/-
# The launch

The seven semaphores of every device are allocated at once, their invariants shared with everyone, the rights to pay dealt
to the devices that pay; the launch credit is each device's due; and the run of the whole program follows from the body.
-/
module

public import proofs.«01_k».proof.Proof.Body
public import Idealize.ShloMosaic.Lib.Pipeline.CollectiveSegs
public import Idealize.ShloMosaic.Lib.Pipeline.ValueKit.Geometry

@[expose] public section

set_option maxRecDepth 16384

noncomputable section

namespace Cert.KernelIdeal.Around

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state minted -/

theorem ownSemFacts : Pipeline.OwnSemFacts cfg0.spec osem := by decide

theorem share_eq (c : Dev nD) (w : Fin cfg0.W) : (dats m 0 c).share w = fullShare := by unfold Dat.share; split <;> rfl

theorem kcell_injective : Function.Injective (kcell : Dev nD × Fin 7 → GSem nD τ sig) := by
  rintro ⟨c, i⟩ ⟨c', i'⟩ h
  obtain rfl : c = c' := congrArg (fun g : GSem nD τ sig => g.1.1) h
  have hs : csem i = csem i' := congrArg Prod.snd h
  obtain rfl : i = i' := by
    revert i i'; intro i i' _ hs
    fin_cases i <;> fin_cases i' <;> first | rfl | exact absurd hs (by decide)
  rfl
/-- The cells of the ring, -/
def ringCells : Finset (GSem nD τ sig) := Finset.univ.map ⟨kcell, kcell_injective⟩
/-- and the one duty of each. -/
def ringToks : Finset (GSem nD τ sig × ℕ × Unit) :=
  Finset.univ.map ⟨fun ci : Dev nD × Fin 7 => (kcell ci, 0, ()), fun a b h => kcell_injective (congrArg Prod.fst h)⟩

def u₀ : UU := (initOf (Pipeline.cells cfgs cellOf_inj) (Pipeline.launchToks cfgs cellOf_inj), initOf ringCells ringToks)

/-- The duties of a device's own seven semaphores. -/
def toks (c : Dev nD) : sProp 𝕄 := bigSep Finset.univ fun i : Fin 7 => dutyTok ER (kcell (c, i)) 0 ()

/-- What is minted for a device. -/
def G (c : Dev nD) : sProp 𝕄 :=
  iprop((bigSep Finset.univ fun i : Fin 7 => roundState ER (ringRd m) (kcell (c, i)) 0)
    ∗ (places c ∗ bigSep Finset.univ fun i : Fin 7 => reached ER (kcell (c, i)) 0) ∗ toks c)
/-- What it starts the kernel with. -/
def G' (c : Dev nD) : sProp 𝕄 := iprop(∃ K, ghost m K c)

theorem over_cells (Φ : GSem nD τ sig → sProp 𝕄) :
    bigSep ringCells Φ = bigSep Finset.univ fun c : Dev nD => bigSep Finset.univ fun i : Fin 7 => Φ (kcell (c, i)) := by
  unfold ringCells; rw [bigSep_map, bigSep_univ_prod]; rfl
theorem over_toks : bigSep ringToks (fun x => (dutyTok ER x.1 x.2.1 x.2.2 : sProp 𝕄)) = bigSep Finset.univ fun c : Dev nD => toks c := by
  unfold ringToks toks; rw [bigSep_map, bigSep_univ_prod]; rfl

theorem fund_ring : BI.own (ER (initOf ringCells ringToks)) ⊢ (|==> bigSep Finset.univ (G m) : sProp 𝕄) := by
  iintro H
  imod (Rounds.fund ER (ringRd m) ringCells ringToks) $$ H with ⟨Hst, Hr, Hat, Htok⟩
  imodintro
  ihave Hst := (Entails.of_eq (over_cells fun g => roundState ER (ringRd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G places; simp only [bigSep_sep']
  isplitl [Hst]; · iexact Hst
  isplitl [Hat Hr]
  · isplitl [Hat]; · iexact Hat
    iexact Hr
  iexact Htok

/-! ## The semaphores at zero -/

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
      ∗ semVal (recvCell c 0) 0 ∗ semVal (recvCell c 1) 0 ∗ semVal (recvCell c 2) 0) := by
  rw [Pipeline.ownSems0_eq_of_list c osem [0, 1, 2, 3, 4, 5] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The barrier semaphore the launch does not scope and the six it does are the seven of the ring. -/
theorem sems0_eq (c : Dev nD) :
    (bigSep Finset.univ fun i : Fin 7 => semVal (kcell (c, i)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, zeros_eq]

/-! ## The invariants allocated, the rights dealt -/

/-- One device's seven invariants. -/
theorem alloc_one (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 7 => iprop(∃ κ : ℕ, cellInv ER (ringRd m) κ (kcell (c, i))))
          ∗ (places c ∗ bigSep Finset.univ fun i : Fin 7 => reached ER (kcell (c, i)) 0) ∗ toks c) := by
  unfold G
  iintro ⟨Hos, Hus, Hst, Hat, Htok⟩
  ihave Hv := (Entails.of_eq (sems0_eq (F := F) c).symm) $$ [Hos Hus]
  · isplitl [Hus]; · iexact Hus
    iexact Hos
  have hinv : iprop((bigSep Finset.univ fun i : Fin 7 => semVal (kcell (c, i)) 0) ∗ bigSep Finset.univ fun i : Fin 7 => roundState ER (ringRd m) (kcell (c, i)) 0)
      ⊢ (|={Set.univ}=> bigSep Finset.univ fun i : Fin 7 => iprop(∃ κ : ℕ, cellInv ER (ringRd m) κ (kcell (c, i))) : sProp 𝕄) := by
    rw [← bigSep_sep']
    exact (bigSep_mono fun i _ => (Rounds.body_intro ER (ringRd m) (kcell (c, i))).trans inv_alloc).trans (bigSep_fupd _ _)
  imod hinv $$ [Hv Hst] with Hinv
  · isplitl [Hv]; · iexact Hv
    iexact Hst
  imodintro
  isplitl [Hinv]; · iexact Hinv
  isplitl [Hat]; · iexact Hat
  iexact Htok

theorem regroup (a b c d e : sProp 𝕄) : iprop(a ∗ b ∗ c ∗ d ∗ e) = iprop(a ∗ (b ∗ c ∗ d) ∗ e) :=
  BI.Entails.antisymm
    (show iprop(a ∗ b ∗ c ∗ d ∗ e) ⊢ iprop(a ∗ (b ∗ c ∗ d) ∗ e) by
      iintro ⟨H0, H1, H2, H3, H4⟩
      isplitl [H0]; · iexact H0
      isplitl [H1 H2 H3]
      · isplitl [H1]; · iexact H1
        isplitl [H2]; · iexact H2
        iexact H3
      iexact H4)
    (show iprop(a ∗ (b ∗ c ∗ d) ∗ e) ⊢ iprop(a ∗ b ∗ c ∗ d ∗ e) by
      iintro ⟨H0, ⟨H1, H2, H3⟩, H4⟩
      isplitl [H0]; · iexact H0
      isplitl [H1]; · iexact H1
      isplitl [H2]; · iexact H2
      isplitl [H3]; · iexact H3
      iexact H4)

/-- The duties dealt: a barrier's one to the right, an arrival's one to the left, a send's stays. -/
theorem deal : (bigSep Finset.univ fun c : Dev nD => (toks c : sProp 𝕄)) ⊢ bigSep Finset.univ fun c : Dev nD => rights c := by
  have hl : (bigSep Finset.univ fun c : Dev nD => (toks c : sProp 𝕄)) = bigSep Finset.univ fun c : Dev nD =>
      iprop(dutyTok ER (barCell c) 0 () ∗ (dutyTok ER (sendCell c 0) 0 () ∗ dutyTok ER (sendCell c 1) 0 () ∗ dutyTok ER (sendCell c 2) 0 ())
        ∗ dutyTok ER (recvCell c 0) 0 () ∗ dutyTok ER (recvCell c 1) 0 () ∗ dutyTok ER (recvCell c 2) 0 ()) :=
    bigSep_congr fun c _ => by
      unfold toks; rw [bigSep_fin7]
      exact regroup _ _ _ _ _
  rw [hl, bigSep_congr (s := Finset.univ) (fun (c : Dev nD) _ => rights_eq (F := F) c)]
  simp only [bigSep_sep']
  rw [bigSep_univ_equiv around.symm (fun c : Dev nD => (dutyTok ER (barCell c) 0 () : sProp 𝕄)),
    bigSep_univ_equiv around (fun c : Dev nD => (dutyTok ER (recvCell c 0) 0 () : sProp 𝕄)),
    bigSep_univ_equiv around (fun c : Dev nD => (dutyTok ER (recvCell c 1) 0 () : sProp 𝕄)),
    bigSep_univ_equiv around (fun c : Dev nD => (dutyTok ER (recvCell c 2) 0 () : sProp 𝕄))]
  iintro ⟨HB, ⟨HS0, HS1, HS2⟩, HV0, HV1, HV2⟩
  isplitl [HB]; · iexact HB
  isplitl [HV0 HV1 HV2]
  · isplitl [HV0]; · iexact HV0
    isplitl [HV1]; · iexact HV1
    iexact HV2
  isplitl [HS0]; · iexact HS0
  isplitl [HS1]; · iexact HS1
  iexact HS2

/-- Something persistent beside a family is beside each of its members. -/
theorem share_out {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- With every device's invariants allocated, every device has its ghost state. -/
theorem gather :
    (bigSep Finset.univ fun c : Dev nD => iprop((bigSep Finset.univ fun i : Fin 7 => iprop(∃ κ : ℕ, cellInv ER (ringRd m) κ (kcell (c, i))))
          ∗ (places c ∗ bigSep Finset.univ fun i : Fin 7 => reached ER (kcell (c, i)) 0) ∗ toks c) : sProp 𝕄)
      ⊢ bigSep Finset.univ (G' m) := by
  rw [bigSep_sep', bigSep_sep', bigSep_sep',
    ← bigSep_univ_prod (fun ci : Dev nD × Fin 7 => iprop(∃ κ : ℕ, cellInv ER (ringRd m) κ (kcell ci))),
    ← bigSep_univ_prod (fun ci : Dev nD × Fin 7 => (reached ER (kcell ci) 0 : sProp 𝕄))]
  iintro ⟨HI, ⟨Hat, #HR⟩, Htok⟩
  ihave HK := (BI.bigSep_exists_pi Finset.univ (fun (ci : Dev nD × Fin 7) (κ : ℕ) => (cellInv ER (ringRd m) κ (kcell ci) : sProp 𝕄))) $$ HI
  icases HK with ⟨%K, #HI⟩
  ihave Htok := (deal (F := F)) $$ Htok
  iapply (share_out (R := records m K) (Φ := fun c => iprop(places c ∗ rights c)) (fun c => by
    unfold G' ghost
    iintro ⟨H, H'⟩
    iexists K
    isplitl [H]; · iexact H
    iexact H'))
  isplitr
  · unfold records; isplitr; · iexact HI
    iexact HR
  rw [bigSep_sep']
  isplitl [Hat]; · iexact Hat
  iexact Htok

/-- The whole step: all devices' semaphores at zero and all that was minted, to all devices' ghost state. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_one m c).trans (bigSep_fupd _ _)).trans (BI.fupd_mono (gather m))

/-! ## The launch credit -/

/-- The credit of a device is what its neighbours owe it. -/
theorem launch_credits (c : Dev nD) : (Pipeline.launchCred O₀ c : sProp 𝕄) ⊢ credits c := by
  have e : O₀ = fun d : Dev nD => (((0 + tallyAt (recvCell (nxt d) 2) () N) + tallyAt (recvCell (nxt d) 1) () N) + tallyAt (recvCell (nxt d) 0) () N)
      + tallyAt (barCell (prv d)) () 1 := rfl
  rw [e, Pipeline.launchCred_add, Pipeline.launchCred_add, Pipeline.launchCred_add, Pipeline.launchCred_add]
  unfold credits
  iintro ⟨⟨⟨⟨-, H2⟩, H1⟩, H0⟩, HB⟩
  isplitl [HB]
  · iapply (Pipeline.launchCred_tallyAt (.reg barS) prv nxt prv_nxt nxt_prv () 1 c); iexact HB
  isplitl [H0]
  · iapply (Pipeline.launchCred_tallyAt (.dma (recvS 0)) nxt prv nxt_prv prv_nxt () N c); iexact H0
  isplitl [H1]
  · iapply (Pipeline.launchCred_tallyAt (.dma (recvS 1)) nxt prv nxt_prv prv_nxt () N c); iexact H1
  iapply (Pipeline.launchCred_tallyAt (.dma (recvS 2)) nxt prv nxt_prv prv_nxt () N c); iexact H2

/-! ## Entry and exit -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_credits (F := F) c) $$ Hcr
  imodintro
  unfold start G'
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ sendAll landAll
  iintro ⟨Hs, -, H0, H1⟩
  isplitl [Hs]; · iexact Hs
  isplitl [H0]; · iexact H0
  iexact H1

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ sendAll landAll
  rw [sems0_eq]
  iintro ⟨⟨H0, H1⟩, HB, HS⟩
  isplitl [HB]; · iexact HB
  isplitl [HS]; · iexact HS
  isplitl [H0]; · iexact H0
  iexact H1

theorem role_stage (q : DmaSem sig) (h : q.val < 3) : role (.dma q) = .none := by
  unfold role; dsimp only; rw [dif_neg (by omega), dif_neg (by omega)]

/-- A wait for a staged copy lies below all a device owes. -/
theorem stage_wait (c : Dev nD) (q : DmaSem sig) (h : q.val < 3) (O : CellTallies nD τ sig Unit) (hO : O = O₀ c ∨ O = 0) :
    (levAts L lv : sProp 𝕄) ⊢ MayWait (c : Thread nD τ) (.dma q) () O := by
  refine mayWait c (.dma q) ?_
  have e : lv ((c : Thread nD τ), .dma q) () = 0 := by unfold lv; rw [role_stage q h]; rfl
  rw [e]
  rcases hO with rfl | rfl
  · exact above_O₀ c (by decide)
  · exact above_zero 0

theorem waits (c : Dev nD) : (levAts L lv : sProp 𝕄) ⊢ Pipeline.cellsWaits cfgs (dats m) () 0 c :=
  Pipeline.cellsWaits_intro cfgs (dats m) () 0 c fun w s t =>
    stage_wait c _ (by fin_cases w <;> fin_cases s <;> decide) _ (by
      rcases t with ⟨_ | _, ht⟩
      · exact Or.inl rfl
      · exact Or.inr rfl)

/-! ## The run -/

/-- The program's start: the memory `m`, every semaphore at zero. -/
def s₀ : MemSt nD τ sig (Elt F) := ⟨m, fun _ => 0, ρ⟩

set_option maxRecDepth 8000 in
/-- From any memory and any state of the generators, under every scheduling of the devices and of the copies, the program ends:
    each window's array at what the launch left there, every semaphore at zero. -/
theorem run_windows : θ_run defs (onTc (τ := τ) (main (F := F))) (s₀ m ρ)
    (fun r => (∀ (c : Dev nD) (w : Fin cfg0.W), r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The launch writes the result back once, the whole of it. -/
theorem result_whole : (cfg0.win (2 : Fin 3)).WholeAt t0_0 :=
  (by decide +kernel : win0_2.WholeAt t0_0)

/-- The result array ends holding what the body left in its staging buffer, the whole of it. -/
theorem result_final (c : Dev nD) : (dats m 0 c).arrAt (2 : Fin _) cfg0.N = outAt m c :=
  (dats (F := F) m 0 c).arrAt_eq_of_after_last (2 : Fin 3) t0_0 result_whole (outAt m c) fun j => rfl
/-- The array of each argument ends as it began. -/
theorem partial_final (c : Dev nD) : (dats m 0 c).arrAt (0 : Fin _) cfg0.N = m ((c : Thread nD τ).loc main_arg0) :=
  (dats (F := F) m 0 c).arrAt_in (0 : Fin _) rfl _
theorem gamma_final (c : Dev nD) : (dats m 0 c).arrAt (1 : Fin _) cfg0.N = m ((c : Thread nD τ).loc main_arg1) :=
  (dats (F := F) m 0 c).arrAt_in (1 : Fin _) rfl _

/-- The run read at the program's arrays: each device's result is `outAt`, its arguments hold what they held. -/
theorem run_main : θ_run defs (onTc (τ := τ) (main (F := F))) (s₀ m ρ)
    (fun r => (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run _ _ _).mono (fun r h => ⟨fun c => ⟨(h.1 c (2 : Fin _)).trans (result_final m c),
    (h.1 c (0 : Fin _)).trans (partial_final m c),
    (h.1 c (1 : Fin _)).trans (gamma_final m c)⟩, h.2⟩) (run_windows m ρ)

end Cert.KernelIdeal.Around

end
-- ==== Proof.Value.lean ====
/-
# What the ring computes

Over the extended reals: the kernel's result at a row and a column of a device's chunk is that row, summed over the four
blocks of `partial`, divided by its root mean square and scaled by `gamma`; and the reference's result is the same expression
at the row's place in the whole array.
-/
module

public import proofs.«01_k».proof.Proof.Protocol
public import proofs.«01_k».proof.Proof.Gen.ReferenceIdeal.Run
public import Idealize.ShloMosaic.Lib.Pointwise

@[expose] public section

set_option maxRecDepth 16384

noncomputable section

namespace Cert.KernelIdeal.Around

open Cert.KernelIdeal Cert.KernelIdeal.Gen
open Idealize.ShloMosaic
open Idealize.ShloMosaic.TcCoe

/-! ## A row normalised -/

/-- Entry `l` of the row `Y` divided by the square root of the mean of its squares and a small number, times `g l`. -/
def norm (Y g : Fin 512 → EReal) (l : Fin 512) : EReal :=
  Ideal.div (Y l) (Ideal.sqrt (Ideal.div (∑ k, Y k * Y k) (Ideal.ofBits .f32 0x44000000#32) + Ideal.ofBits .f32 0x358637BD#32)) * g l

/-- The last step of the kernel at a row and a column. -/
theorem last_apply (a b : FVec Ideal S512x512 .bf16) (g : Vec Ideal S512 .bf16) (r l : Fin 512) :
    k0_pay1 (F := Ideal) a b g (ix2 r l) = norm (fun k => a (ix2 r k) + b (ix2 r k)) (fun k => g (ix1 k)) l := by
  unfold k0_pay1 norm
  pointwise

/-- A chunk as it is first sent, -/
theorem first_apply (b : Vec Ideal S1x512x512 .bf16) (r l : Fin 512) :
    shapeCast S512x512 (k0_pay2 (F := Ideal) b) shapeCasts_S1x512x512_S512x512 (ix2 r l) = b (ix3 0 r l) := by
  unfold k0_pay2
  pointwise
/-- a partial sum with a chunk added, in the second exchange, -/
theorem second_apply (a : FVec Ideal S512x512 .bf16) (b : Vec Ideal S1x512x512 .bf16) (r l : Fin 512) :
    shapeCast S512x512 (k0_pay4 (F := Ideal) a b) shapeCasts_S1x512x512_S512x512 (ix2 r l) = (a (ix2 r l) + b (ix3 0 r l) : EReal) := by
  unfold k0_pay4
  pointwise
/-- in the third, -/
theorem third_apply (a : FVec Ideal S512x512 .bf16) (b : Vec Ideal S1x512x512 .bf16) (r l : Fin 512) :
    shapeCast S512x512 (k0_pay6 (F := Ideal) a b) shapeCasts_S1x512x512_S512x512 (ix2 r l) = (a (ix2 r l) + b (ix3 0 r l) : EReal) := by
  unfold k0_pay6
  pointwise
/-- and the device's own chunk, added last. -/
theorem fourth_apply (b : Vec Ideal S1x512x512 .bf16) (r l : Fin 512) :
    k0_pay8 (F := Ideal) b (ix2 r l) = b (ix3 0 r l) := by
  unfold k0_pay8
  pointwise

/-! ## The rows a device reads -/

theorem offset1 : ∀ c : Dev nD, k0_off1 c 4#32 1#32 = ![0, 512 * ((c.val + 3) % 4), 0] := by decide +kernel
theorem offset2 : ∀ c : Dev nD, k0_off1 c 2#32 0#32 = ![0, 512 * ((c.val + 2) % 4), 0] := by decide +kernel
theorem offset3 : ∀ c : Dev nD, k0_off1 c 2#32 1#32 = ![0, 512 * ((c.val + 1) % 4), 0] := by decide +kernel
theorem offset4 : ∀ c : Dev nD, k0_off1 c 2#32 2#32 = ![0, 512 * (c.val % 4), 0] := by decide +kernel

/-- Row `r` of chunk `q`. -/
def rowOf (q : ℕ) (r : Fin 512) : Fin 2048 := ⟨512 * (q % 4) + r.val, by have := Nat.mod_lt q (show 0 < 4 by decide); omega⟩

variable (m : (ℓ : Loc nD τ sig) → Buf (Elt Ideal) ℓ)

/-- A device's block of `partial` at a row and a column. -/
def block (c : Dev nD) (R : Fin 2048) (l : Fin 512) : EReal := (m ((c : Thread nD τ).loc main_arg0) : S1x2048x512.Idx → EReal) (ix3 0 R l)

theorem xstg_apply (c : Dev nD) (R : Fin 2048) (l : Fin 512) : (xstg m c : S1x2048x512.Idx → EReal) (ix3 0 R l) = block m c R l := by
  unfold xstg block
  show (m ((c : Thread nD τ).loc main_arg0) : S1x2048x512.Idx → EReal) _ = _
  congr 1
  funext a; apply Fin.ext
  exact win0_0.rect_emb_val_of_index_zero (0 : Fin 1) a (by fin_cases a <;> rfl) (ix3 0 R l)

theorem gstg_apply (c : Dev nD) (l : Fin 512) :
    (gstg m c : S512.Idx → EReal) (ix1 l) = (m ((c : Thread nD τ).loc main_arg1) : S512.Idx → EReal) (ix1 l) := by
  unfold gstg
  show (m ((c : Thread nD τ).loc main_arg1) : S512.Idx → EReal) _ = _
  congr 1
  funext a; apply Fin.ext
  exact win0_1.rect_emb_val_of_index_zero (0 : Fin 1) a (by fin_cases a <;> rfl) (ix1 l)

/-- A load of 512 rows of the block from the offset `512 * (q % 4)`. -/
theorem own_apply (c : Dev nD) (o : Fin 3 → ℕ) (q : ℕ) (ho : o = ![0, 512 * (q % 4), 0])
    (hin : ∀ a, o a + S1x512x512.size a ≤ S1x2048x512.size a) (r l : Fin 512) :
    ((Memref.whole cc0_stg0_0 : Memref sig .tc .vmem S1x2048x512 .bf16).view.readAt (Elt Ideal)
      (Rect.unit (s := S1x2048x512) o S1x512x512.size hin).toLoadRect (xstg m c) : S1x512x512.Idx → EReal) (ix3 0 r l)
      = block m c (rowOf q r) l := by
  subst ho
  rw [← xstg_apply]
  show (xstg m c : S1x2048x512.Idx → EReal) _ = _
  congr 1
  funext a; apply Fin.ext
  fin_cases a
  · rfl
  · show 512 * (q % 4) + 1 * r.val = 512 * (q % 4) + r.val; omega
  · show 0 + 1 * l.val = l.val; omega

/-! ## Around the ring -/

theorem sent0_apply (c : Dev nD) (r l : Fin 512) : (sent0 m c : S512x512.Idx → EReal) (ix2 r l) = block m c (rowOf (c.val + 3) r) l :=
  (first_apply _ r l).trans (own_apply m c _ _ (offset1 c) _ r l)
theorem sent1_apply (c : Dev nD) (r l : Fin 512) :
    (sent1 m c : S512x512.Idx → EReal) (ix2 r l) = block m (prv c) (rowOf ((prv c).val + 3) r) l + block m c (rowOf (c.val + 2) r) l :=
  (second_apply _ _ r l).trans (congrArg₂ (· + ·) (sent0_apply m (prv c) r l) (own_apply m c _ _ (offset2 c) _ r l))
theorem sent2_apply (c : Dev nD) (r l : Fin 512) :
    (sent2 m c : S512x512.Idx → EReal) (ix2 r l)
      = (block m (prv (prv c)) (rowOf ((prv (prv c)).val + 3) r) l + block m (prv c) (rowOf ((prv c).val + 2) r) l) + block m c (rowOf (c.val + 1) r) l :=
  (third_apply _ _ r l).trans (congrArg₂ (· + ·) (sent1_apply m (prv c) r l) (own_apply m c _ _ (offset3 c) _ r l))

theorem prv_mod (c : Dev nD) : (prv c).val % 4 = (c.val + 3) % 4 := by
  show (4 * (c.val / 4) + (c.val % 4 + 3) % 4) % 4 = _; omega

theorem rowOf_congr {p q : ℕ} (h : p % 4 = q % 4) (r : Fin 512) : rowOf p r = rowOf q r := by
  apply Fin.ext; show 512 * (p % 4) + r.val = 512 * (q % 4) + r.val; rw [h]

/-- The kernel's result: the rows of the device's chunk, summed along the ring from the neighbour three to the left, normalised. -/
theorem outAt_apply (c : Dev nD) (r l : Fin 512) :
    (outAt m c : S512x512.Idx → EReal) (ix2 r l)
      = norm (fun k => ((block m (prv (prv (prv c))) (rowOf c.val r) k + block m (prv (prv c)) (rowOf c.val r) k) + block m (prv c) (rowOf c.val r) k)
          + block m c (rowOf c.val r) k) (fun k => (m ((c : Thread nD τ).loc main_arg1) : S512.Idx → EReal) (ix1 k)) l := by
  have h1 := prv_mod c
  have h2 := prv_mod (prv c)
  have h3 := prv_mod (prv (prv c))
  unfold outAt
  rw [last_apply]
  congr 1
  · funext k
    rw [sent2_apply, fourth_apply]
    refine congrArg₂ (· + ·) ?_ (own_apply m c _ _ (offset4 c) _ r k)
    rw [rowOf_congr (q := c.val) (by omega), rowOf_congr (p := (prv (prv c)).val + 2) (q := c.val) (by omega),
      rowOf_congr (p := (prv c).val + 1) (q := c.val) (by omega)]
  · funext k; exact gstg_apply m c k

/-! ## Against the whole array -/

/-- Four terms added around the ring from any place are the sum of the four. -/
theorem ring_sum (f : Fin 4 → EReal) (z : Fin 4) : ((f (z + 1) + f (z + 2)) + f (z + 3)) + f z = ∑ x, f x := by
  rw [Fin.sum_univ_four]
  fin_cases z
  · show ((f 1 + f 2) + f 3) + f 0 = _; ac_rfl
  · show ((f 2 + f 3) + f 0) + f 1 = _; ac_rfl
  · show ((f 3 + f 0) + f 1) + f 2 = _; ac_rfl
  · rfl

/-- Where a device lies along the ring. -/
def place (c : Dev nD) : Fin 4 := ⟨c.val % 4, Nat.mod_lt _ (by decide)⟩
theorem place_prv (c : Dev nD) : place (prv c) = place c + 3 := by
  apply Fin.ext; show (prv c).val % 4 = (c.val % 4 + 3) % 4; rw [prv_mod]; omega

/-- If every device's block is its block of one whole array `X`, the kernel's result at a row is the sum of that row's four
    entries in `X`, normalised. -/
theorem outAt_whole (X : (⟨3, ![4, 2048, 512]⟩ : Shape).Idx → EReal) (g : S512.Idx → EReal)
    (hX : ∀ (c : Dev nD) R l, block m c R l = X (ix3 (place c) R l))
    (hg : ∀ c : Dev nD, (m ((c : Thread nD τ).loc main_arg1) : S512.Idx → EReal) = g) (c : Dev nD) (r l : Fin 512) :
    (outAt m c : S512x512.Idx → EReal) (ix2 r l)
      = norm (fun k => ∑ x, X (ix3 x (rowOf c.val r) k)) (fun k => g (ix1 k)) l := by
  rw [outAt_apply, hg]
  congr 1
  funext k
  rw [hX, hX, hX, hX, ← ring_sum _ (place c), place_prv, place_prv, place_prv,
    show place c + 3 + 3 = place c + 2 by rw [add_assoc]; rfl, show place c + 2 + 3 = place c + 1 by rw [add_assoc]; rfl]

end Cert.KernelIdeal.Around

namespace Cert.ReferenceIdeal.Value

open Cert.ReferenceIdeal Cert.ReferenceIdeal.Gen
open Idealize.ShloMosaic Idealize.ShloMosaic.TcCoe Idealize.SL.Sem Idealize.ShloMosaic.StableHlo

/-- The reference's result, as its operations compose it. -/
def result (X : FVec Ideal S4x2048x512 .bf16) (g : FVec Ideal S512 .bf16) : FVec Ideal S2048x512 .f32 :=
  have y : FVec Ideal S2048x512 .f32 := Host.reduceAdd (extf .f32 X bitsLt_bf16_f32) (constant S_ .f32 0x00000000#32) reducesTo_S4x2048x512_S2048x512_d0 h_S_
  have s : FVec Ideal S2048x1 .f32 := broadcastInDim S2048x1 ![0] bcast_S2048_S2048x1_0 (Host.reduceAdd (mulf y y) (constant S_ .f32 0x00000000#32) reducesTo_S2048x512_S2048_d1 h_S_)
  have q : FVec Ideal S2048x1 .f32 := Host.sqrt (addf (Host.divf s (broadcastInDim S2048x1 ![] bcast_S_S2048x1 (constant S_ .f32 0x44000000#32)))
    (broadcastInDim S2048x1 ![] bcast_S_S2048x1 (constant S_ .f32 0x358637BD#32)))
  mulf (Host.divf y (broadcastInDim S2048x512 ![0, 1] bcast_S2048x1_S2048x512_0_1 q))
    (broadcastInDim S2048x512 ![0, 1] bcast_S1x512_S2048x512_0_1 (broadcastInDim S1x512 ![1] bcast_S512_S1x512_1 (extf .f32 g bitsLt_bf16_f32)))

/-- At a row and a column: the row's four entries summed, normalised. -/
theorem result_apply (X : FVec Ideal S4x2048x512 .bf16) (g : FVec Ideal S512 .bf16) (R : Fin 2048) (l : Fin 512) :
    result X g (ix2 R l) = Cert.KernelIdeal.Around.norm (fun k => ∑ x, X (ix3 x R k)) (fun k => g (ix1 k)) l := by
  unfold result Cert.KernelIdeal.Around.norm
  pointwise

/-- The reference runs from any memory to that result, its arguments unchanged, every semaphore at zero. -/
theorem run_quiet (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v15) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run _ _ _).mono (fun r h => ⟨h, funext fun ⟨_, sm⟩ => by rcases sm with s | s <;> exact s.elim0⟩) (run m ρ)

end Cert.ReferenceIdeal.Value

end
-- ==== Proof.lean ====
/-
# The certificate

The kernel's run, written once over any float values (`Proof/Launch.lean`), read at the bits and at the extended reals; the
reference's run; and their results compared (`Proof/Value.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Value
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.KernelIdeal.Around (outAt outAt_whole norm place rowOf run_main)

/-- The kernel and the idealized kernel, read at the same floats, run the same bodies; -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  match l, a with
  | 0, (t, s) => rfl
  | ⟨n + 1, h⟩, _ => exact absurd h (by omega)
/-- so they make the same calls. -/
theorem calls_eq : @Cert.Kernel.defs Bits _ Cert.Kernel.Gen.facts = @Cert.KernelIdeal.defs Bits _ Cert.KernelIdeal.Gen.facts :=
  congrArg (Pipeline.defs _) bodies_eq

/-- The kernel at the bits terminates quietly, its arguments unchanged: the run of the idealized text, which is the same text. -/
theorem frame_kernel : Cert.quiescent_Kernel := by
  intro m ρ _
  rw [calls_eq]
  exact (θ_run (Cert.KernelIdeal.defs (F := Bits)) _ _).mono (fun _ h => ⟨fun c => (h.1 c).2, h.2⟩) (run_main (F := Bits) m ρ)

/-- So does the idealized kernel. -/
theorem frame_ideal : Cert.quiescent_KernelIdeal := fun m ρ _ =>
  (θ_run (Cert.KernelIdeal.defs (F := Ideal)) _ _).mono (fun _ h => ⟨fun c => (h.1 c).2, h.2⟩) (run_main (F := Ideal) m ρ)

/-- So does the reference. -/
theorem frame_reference : Cert.quiescent_ReferenceIdeal := fun m ρ _ =>
  (θ_run (Cert.ReferenceIdeal.defs (F := Ideal)) _ _).mono (fun _ h => ⟨fun c => (h.1 c).2, h.2⟩) (Cert.ReferenceIdeal.Value.run_quiet m ρ)

/-- Where an entry of a device's block of `partial` lies in the whole. -/
theorem partial_block (X : (⟨3, ![4, 2048, 512]⟩ : Shape).Idx → EReal) (c : Dev Cert.KernelIdeal.nD) (R : Fin 2048) (l : Fin 512) :
    Layout.blockN ⟨3, ![1, 2048, 512]⟩ ⟨3, ![4, 2048, 512]⟩ (Layout.meshBlock [2, 4, 4] ![[2], [], []] c) X (by decide) (ix3 0 R l) = X (ix3 (place c) R l) := by
  show X _ = X _
  congr 1
  funext a; apply Fin.ext
  rw [Layout.TilesN.idx_val]
  fin_cases a
  · show (c.val / 1 % 4 * 1 + 0) * 1 + 0 = c.val % 4; omega
  · show 0 * 2048 + R.val = R.val; omega
  · show 0 * 512 + l.val = l.val; omega

/-- Where an entry of a device's block of the result lies in the whole. -/
theorem result_block (Y : (⟨2, ![2048, 512]⟩ : Shape).Idx → EReal) (c : Dev Cert.KernelIdeal.nD) (r l : Fin 512) :
    Layout.blockN ⟨2, ![512, 512]⟩ ⟨2, ![2048, 512]⟩ (Layout.meshBlock [2, 4, 4] ![[2], []] c) Y (by decide) (ix2 r l) = Y (ix2 (rowOf c.val r) l) := by
  show Y _ = Y _
  congr 1
  funext a; apply Fin.ext
  rw [Layout.TilesN.idx_val]
  fin_cases a
  · show (c.val / 1 % 4 * 1 + 0) * 512 + r.val = 512 * (c.val % 4) + r.val; omega
  · show 0 * 512 + l.val = l.val; omega

/-- Every device's result is its block of the reference's. -/
theorem value : Cert.algebraic_KernelIdeal_ReferenceIdeal := by
  intro m ρ m' ρ' _ hm
  refine ⟨Cert.ReferenceIdeal.Value.result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ⟨(h.1 c).1.trans ?_, (h.1 c).2⟩) (run_main (F := Ideal) m ρ)
    funext i
    obtain ⟨r, l, rfl⟩ : ∃ r l : Fin 512, i = ix2 r l := ⟨i 0, i 1, by funext a; fin_cases a <;> rfl⟩
    refine (outAt_whole m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (fun c R l => (congrFun (hm c).1 (ix3 0 R l)).trans (partial_block _ c R l)) (fun c => (hm c).2) c r l).trans ?_
    exact ((result_block _ c r l).trans (Cert.ReferenceIdeal.Value.result_apply _ _ (rowOf c.val r) l)).symm
  · exact (θ_run _ _ _).mono (fun r h => h.1 0) (Cert.ReferenceIdeal.Value.run_quiet m' ρ')

theorem claim : Cert.Claim :=
  ⟨Cert.Kernel.Gen.facts, Cert.KernelIdeal.Gen.facts, Cert.ReferenceIdeal.Gen.facts, frame_kernel, frame_ideal, frame_reference, trivial, value⟩

end Cert.Proof

end
